-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_centroids [hPre_finite_centroids : Cert.Pre_finite_centroids.Facts] (m : (ℓ : Loc Cert.KernelIdeal.nD Cert.KernelIdeal.τ Cert.KernelIdeal.sig) → Buf (Elt Ideal) ℓ) : Prop :=
  ∀ c : Dev Cert.KernelIdeal.nD,
    (Cert.Pre_finite_centroids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_centroids [hPre_finite_centroids : Cert.Pre_finite_centroids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_centroids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_centroids [hKernelIdeal : Cert.KernelIdeal.Facts] [hPre_finite_centroids : Cert.Pre_finite_centroids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_centroids m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_centroids [hReferenceIdeal : Cert.ReferenceIdeal.Facts] [hPre_finite_centroids : Cert.Pre_finite_centroids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_centroids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg_alpha_log2e" .f32 0xC31044FE#32 (((-100) * (Real.log 2)⁻¹ : ℝ) : EReal)
  ∧ IdealRules.named_const.Statement Cert.KernelIdeal.κ "two_alpha_log2e" .f32 0x439044FE#32 ((200 * (Real.log 2)⁻¹ : ℝ) : EReal)
  ∧ IdealRules.named_const.Statement Cert.KernelIdeal.κ "eps_squared" .f32 0x179ABE15#32 (((2305843 / 2305843009213693952) * (2305843 / 2305843009213693952) : ℝ) : EReal)

def algebraic_KernelIdeal_ReferenceIdeal_pre_finite_centroids [hKernelIdeal : Cert.KernelIdeal.Facts] [hReferenceIdeal : Cert.ReferenceIdeal.Facts] [hPre_finite_centroids : Cert.Pre_finite_centroids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_centroids m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_centroids : Cert.Pre_finite_centroids.Facts),
    quiescent_Kernel (hKernel := hKernel)
    ∧ quiescent_KernelIdeal (hKernelIdeal := hKernelIdeal)
    ∧ quiescent_KernelIdeal_pre_finite_centroids (hKernelIdeal := hKernelIdeal) (hPre_finite_centroids := hPre_finite_centroids)
    ∧ quiescent_ReferenceIdeal (hReferenceIdeal := hReferenceIdeal)
    ∧ quiescent_ReferenceIdeal_pre_finite_centroids (hReferenceIdeal := hReferenceIdeal) (hPre_finite_centroids := hPre_finite_centroids)
    ∧ preserves_Kernel_KernelIdeal
    ∧ algebraic_KernelIdeal_ReferenceIdeal_pre_finite_centroids (hKernelIdeal := hKernelIdeal) (hReferenceIdeal := hReferenceIdeal) (hPre_finite_centroids := hPre_finite_centroids)
-- ==== Pre_finite_centroids.lean ====
abbrev S16x128x30x40 : Shape := ⟨4, ![16, 128, 30, 40]⟩
abbrev S64x5x128 : Shape := ⟨3, ![64, 5, 128]⟩
abbrev S_ : Shape := ⟨0, ![]⟩

class Facts : Prop where
  bcast_S_S64x5x128 : S_.BroadcastsInDim S64x5x128 (![] : Fin 0 → Fin S64x5x128.rank)
  reducesTo_S64x5x128_S_d0_1_2 : S64x5x128.ReducesTo [0, 1, 2] S_
  h_S_ : 0 < S_.numel

variable [Facts]

def fn {F : FTy → Type} [FloatOps F] (main_arg0 : FVec F S16x128x30x40 .f32) (main_arg1 : FVec F S64x5x128 .f32) : IVec S_ 1 :=
  let main_v0 : FVec F S64x5x128 .f32 := Host.absf main_arg1
  let main_cst : FVec F S_ .f32 := constant S_ .f32 0x7F800000#32
  let main_v1 : FVec F S64x5x128 .f32 := broadcastInDim S64x5x128 ![] bcast_S_S64x5x128 main_cst
  let main_v2 : IVec S64x5x128 1 := cmpf .olt main_v0 main_v1
  let main_c : IVec S_ 1 := constantI S_ 1 1#1
  let main_v3 : IVec S_ 1 := (fun x v => Host.reduce IntOp.andi x v reducesTo_S64x5x128_S_d0_1_2 h_S_) main_v2 main_c
  main_v3
-- ==== Kernel.lean ====
abbrev S16x128x30x40 : Shape := ⟨4, ![16, 128, 30, 40]⟩
abbrev S64x5x128 : Shape := ⟨3, ![64, 5, 128]⟩
abbrev S16x128x1200 : Shape := ⟨3, ![16, 128, 1200]⟩
abbrev S16x64x128 : Shape := ⟨3, ![16, 64, 128]⟩
abbrev S16x8192 : Shape := ⟨2, ![16, 8192]⟩
abbrev S4x128x1200 : Shape := ⟨3, ![4, 128, 1200]⟩
abbrev S4x64x128 : Shape := ⟨3, ![4, 64, 128]⟩
abbrev S64x1x128 : Shape := ⟨3, ![64, 1, 128]⟩
abbrev S64x128 : Shape := ⟨2, ![64, 128]⟩
abbrev S320x128 : Shape := ⟨2, ![320, 128]⟩
abbrev S320 : Shape := ⟨1, ![320]⟩
abbrev S320x1 : Shape := ⟨2, ![320, 1]⟩
abbrev S320x256 : Shape := ⟨2, ![320, 256]⟩
abbrev S1x128x1200 : Shape := ⟨3, ![1, 128, 1200]⟩
abbrev S128x1200 : Shape := ⟨2, ![128, 1200]⟩
abbrev S256x1200 : Shape := ⟨2, ![256, 1200]⟩
abbrev S320x1200 : Shape := ⟨2, ![320, 1200]⟩
abbrev S64x1200 : Shape := ⟨2, ![64, 1200]⟩
abbrev S1200 : Shape := ⟨1, ![1200]⟩
abbrev S1x1200 : Shape := ⟨2, ![1, 1200]⟩
abbrev S64x256 : Shape := ⟨2, ![64, 256]⟩
abbrev S64 : Shape := ⟨1, ![64]⟩
abbrev S64x1 : Shape := ⟨2, ![64, 1]⟩
abbrev S1x64x128 : Shape := ⟨3, ![1, 64, 128]⟩
abbrev S1 : Shape := ⟨1, ![1]⟩
abbrev S1x1x1 : Shape := ⟨3, ![1, 1, 1]⟩

abbrev nBuf : Space → Nat
  | .hbm => 5
  | .vmem => 5
  | .smem => 0
  | _ => 0

abbrev bufTy : (tb : Table) → Fin (tcTables nBuf tb) → BufTy
  | .hbm, ⟨0, _⟩ => ⟨S16x128x30x40, .f32⟩
  | .hbm, ⟨1, _⟩ => ⟨S64x5x128, .f32⟩
  | .hbm, ⟨2, _⟩ => ⟨S16x128x1200, .f32⟩
  | .hbm, ⟨3, _⟩ => ⟨S16x64x128, .f32⟩
  | .hbm, ⟨4, _⟩ => ⟨S16x8192, .f32⟩
  | .local _ .vmem, ⟨0, _⟩ => ⟨S4x128x1200, .f32⟩
  | .local _ .vmem, ⟨1, _⟩ => ⟨S4x128x1200, .f32⟩
  | .local _ .vmem, ⟨2, _⟩ => ⟨S64x5x128, .f32⟩
  | .local _ .vmem, ⟨3, _⟩ => ⟨S4x64x128, .f32⟩
  | .local _ .vmem, ⟨4, _⟩ => ⟨S4x64x128, .f32⟩
  | _, _ => ⟨S16x128x30x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x1200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x5x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "eps_squared" => some (((2305843 / 2305843009213693952) * (2305843 / 2305843009213693952) : ℝ) : EReal)
  | "neg_alpha_log2e" => some (((-100) * (Real.log 2)⁻¹ : ℝ) : EReal)
  | "two_alpha_log2e" => some ((200 * (Real.log 2)⁻¹ : ℝ) : EReal)
  | _ => none
-- ==== ReferenceIdeal.lean ====
abbrev S16x128x30x40 : Shape := ⟨4, ![16, 128, 30, 40]⟩
abbrev S64x5x128 : Shape := ⟨3, ![64, 5, 128]⟩
abbrev S320x128 : Shape := ⟨2, ![320, 128]⟩
abbrev S_ : Shape := ⟨0, ![]⟩
abbrev S320 : Shape := ⟨1, ![320]⟩
abbrev S16x128x1200 : Shape := ⟨3, ![16, 128, 1200]⟩
abbrev S320x16x1200 : Shape := ⟨3, ![320, 16, 1200]⟩
abbrev S16x320x1200 : Shape := ⟨3, ![16, 320, 1200]⟩
abbrev S1x320x1 : Shape := ⟨3, ![1, 320, 1]⟩
abbrev S16x64x5x1200 : Shape := ⟨4, ![16, 64, 5, 1200]⟩
abbrev S16x5x1200 : Shape := ⟨3, ![16, 5, 1200]⟩
abbrev S16x1x5x1200 : Shape := ⟨4, ![16, 1, 5, 1200]⟩
abbrev S16x64x1200 : Shape := ⟨3, ![16, 64, 1200]⟩
abbrev S16x64x1x1200 : Shape := ⟨4, ![16, 64, 1, 1200]⟩
abbrev S64x1x128 : Shape := ⟨3, ![64, 1, 128]⟩
abbrev S64x128 : Shape := ⟨2, ![64, 128]⟩
abbrev S16x64x128 : Shape := ⟨3, ![16, 64, 128]⟩
abbrev S1x64x128 : Shape := ⟨3, ![1, 64, 128]⟩
abbrev S16x64 : Shape := ⟨2, ![16, 64]⟩
abbrev S16x64x1 : Shape := ⟨3, ![16, 64, 1]⟩
abbrev S16x8192 : Shape := ⟨2, ![16, 8192]⟩
abbrev S16 : Shape := ⟨1, ![16]⟩
abbrev S16x1 : Shape := ⟨2, ![16, 1]⟩

abbrev nBuf : Space → Nat
  | .hbm => 98
  | .vmem => 0
  | .smem => 0
  | _ => 0

abbrev bufTy : (tb : Table) → Fin (tcTables nBuf tb) → BufTy
  | .hbm, ⟨0, _⟩ => ⟨S16x128x30x40, .f32⟩
  | .hbm, ⟨1, _⟩ => ⟨S64x5x128, .f32⟩
  | .hbm, ⟨2, _⟩ => ⟨S320x128, .f32⟩
  | .hbm, ⟨3, _⟩ => ⟨S_, .f32⟩
  | .hbm, ⟨4, _⟩ => ⟨S320x128, .f32⟩
  | .hbm, ⟨5, _⟩ => ⟨S320x128, .f32⟩
  | .hbm, ⟨6, _⟩ => ⟨S320x128, .f32⟩
  | .hbm, ⟨7, _⟩ => ⟨S_, .f32⟩
  | .hbm, ⟨8, _⟩ => ⟨S320, .f32⟩
  | .hbm, ⟨9, _⟩ => ⟨S320, .f32⟩
  | .hbm, ⟨10, _⟩ => ⟨S_, .f32⟩
  | .hbm, ⟨11, _⟩ => ⟨S320, .f32⟩
  | .hbm, ⟨12, _⟩ => ⟨S320, .f32⟩
  | .hbm, ⟨13, _⟩ => ⟨S16x128x1200, .f32⟩
  | .hbm, ⟨14, _⟩ => ⟨S320x16x1200, .f32⟩
  | .hbm, ⟨15, _⟩ => ⟨S16x320x1200, .f32⟩
  | .hbm, ⟨16, _⟩ => ⟨S1x320x1, .f32⟩
  | .hbm, ⟨17, _⟩ => ⟨S16x320x1200, .f32⟩
  | .hbm, ⟨18, _⟩ => ⟨S16x320x1200, .f32⟩
  | .hbm, ⟨19, _⟩ => ⟨S16x64x5x1200, .f32⟩
  | .hbm, ⟨20, _⟩ => ⟨S_, .f32⟩
  | .hbm, ⟨21, _⟩ => ⟨S16x5x1200, .f32⟩
  | .hbm, ⟨22, _⟩ => ⟨S_, .f32⟩
  | .hbm, ⟨23, _⟩ => ⟨S16x5x1200, .f32⟩
  | .hbm, ⟨24, _⟩ => ⟨S16x5x1200, .f32⟩
  | .hbm, ⟨25, _⟩ => ⟨S16x1x5x1200, .f32⟩
  | .hbm, ⟨26, _⟩ => ⟨S16x64x5x1200, .f32⟩
  | .hbm, ⟨27, _⟩ => ⟨S16x64x5x1200, .f32⟩
  | .hbm, ⟨28, _⟩ => ⟨S16x64x5x1200, .f32⟩
  | .hbm, ⟨29, _⟩ => ⟨S_, .f32⟩
  | .hbm, ⟨30, _⟩ => ⟨S16x5x1200, .f32⟩
  | .hbm, ⟨31, _⟩ => ⟨S16x1x5x1200, .f32⟩
  | .hbm, ⟨32, _⟩ => ⟨S16x64x5x1200, .f32⟩
  | .hbm, ⟨33, _⟩ => ⟨S16x64x5x1200, .f32⟩
  | .hbm, ⟨34, _⟩ => ⟨S_, .f32⟩
  | .hbm, ⟨35, _⟩ => ⟨S16x64x1200, .f32⟩
  | .hbm, ⟨36, _⟩ => ⟨S_, .f32⟩
  | .hbm, ⟨37, _⟩ => ⟨S16x64x1200, .f32⟩
  | .hbm, ⟨38, _⟩ => ⟨S16x64x1200, .f32⟩
  | .hbm, ⟨39, _⟩ => ⟨S16x64x1x1200, .f32⟩
  | .hbm, ⟨40, _⟩ => ⟨S16x64x5x1200, .f32⟩
  | .hbm, ⟨41, _⟩ => ⟨S16x64x5x1200, .f32⟩
  | .hbm, ⟨42, _⟩ => ⟨S16x64x5x1200, .f32⟩
  | .hbm, ⟨43, _⟩ => ⟨S_, .f32⟩
  | .hbm, ⟨44, _⟩ => ⟨S16x64x1200, .f32⟩
  | .hbm, ⟨45, _⟩ => ⟨S16x64x1x1200, .f32⟩
  | .hbm, ⟨46, _⟩ => ⟨S16x64x5x1200, .f32⟩
  | .hbm, ⟨47, _⟩ => ⟨S16x64x5x1200, .f32⟩
  | .hbm, ⟨48, _⟩ => ⟨S16x64x5x1200, .f32⟩
  | .hbm, ⟨49, _⟩ => ⟨S_, .f32⟩
  | .hbm, ⟨50, _⟩ => ⟨S16x64x5x1200, .f32⟩
  | .hbm, ⟨51, _⟩ => ⟨S16x64x5x1200, .f32⟩
  | .hbm, ⟨52, _⟩ => ⟨S16x64x1x1200, .f32⟩
  | .hbm, ⟨53, _⟩ => ⟨S16x64x1200, .f32⟩
  | .hbm, ⟨54, _⟩ => ⟨S16x64x1x1200, .f32⟩
  | .hbm, ⟨55, _⟩ => ⟨S16x64x1200, .f32⟩
  | .hbm, ⟨56, _⟩ => ⟨S16x64x1200, .f32⟩
  | .hbm, ⟨57, _⟩ => ⟨S16x64x1x1200, .f32⟩
  | .hbm, ⟨58, _⟩ => ⟨S16x64x1200, .f32⟩
  | .hbm, ⟨59, _⟩ => ⟨S16x64x1200, .f32⟩
  | .hbm, ⟨60, _⟩ => ⟨S16x64x1x1200, .f32⟩
  | .hbm, ⟨61, _⟩ => ⟨S16x64x1200, .f32⟩
  | .hbm, ⟨62, _⟩ => ⟨S16x64x1200, .f32⟩
  | .hbm, ⟨63, _⟩ => ⟨S16x64x1x1200, .f32⟩
  | .hbm, ⟨64, _⟩ => ⟨S16x64x1200, .f32⟩
  | .hbm, ⟨65, _⟩ => ⟨S16x64x1200, .f32⟩
  | .hbm, ⟨66, _⟩ => ⟨S64x1x128, .f32⟩
  | .hbm, ⟨67, _⟩ => ⟨S64x128, .f32⟩
  | .hbm, ⟨68, _⟩ => ⟨S16x64x128, .f32⟩
  | .hbm, ⟨69, _⟩ => ⟨S1x64x128, .f32⟩
  | .hbm, ⟨70, _⟩ => ⟨S_, .f32⟩
  | .hbm, ⟨71, _⟩ => ⟨S16x64, .f32⟩
  | .hbm, ⟨72, _⟩ => ⟨S16x64x1, .f32⟩
  | .hbm, ⟨73, _⟩ => ⟨S16x64x128, .f32⟩
  | .hbm, ⟨74, _⟩ => ⟨S16x64x128, .f32⟩
  | .hbm, ⟨75, _⟩ => ⟨S16x64x128, .f32⟩
  | .hbm, ⟨76, _⟩ => ⟨S16x64x128, .f32⟩
  | .hbm, ⟨77, _⟩ => ⟨S16x64x128, .f32⟩
  | .hbm, ⟨78, _⟩ => ⟨S_, .f32⟩
  | .hbm, ⟨79, _⟩ => ⟨S16x64, .f32⟩
  | .hbm, ⟨80, _⟩ => ⟨S16x64x1, .f32⟩
  | .hbm, ⟨81, _⟩ => ⟨S16x64x1, .f32⟩
  | .hbm, ⟨82, _⟩ => ⟨S_, .f32⟩
  | .hbm, ⟨83, _⟩ => ⟨S16x64x1, .f32⟩
  | .hbm, ⟨84, _⟩ => ⟨S16x64x1, .f32⟩
  | .hbm, ⟨85, _⟩ => ⟨S16x64x128, .f32⟩
  | .hbm, ⟨86, _⟩ => ⟨S16x64x128, .f32⟩
  | .hbm, ⟨87, _⟩ => ⟨S16x8192, .f32⟩
  | .hbm, ⟨88, _⟩ => ⟨S16x8192, .f32⟩
  | .hbm, ⟨89, _⟩ => ⟨S_, .f32⟩
  | .hbm, ⟨90, _⟩ => ⟨S16, .f32⟩
  | .hbm, ⟨91, _⟩ => ⟨S16x1, .f32⟩
  | .hbm, ⟨92, _⟩ => ⟨S16x1, .f32⟩
  | .hbm, ⟨93, _⟩ => ⟨S_, .f32⟩
  | .hbm, ⟨94, _⟩ => ⟨S16x1, .f32⟩
  | .hbm, ⟨95, _⟩ => ⟨S16x1, .f32⟩
  | .hbm, ⟨96, _⟩ => ⟨S16x8192, .f32⟩
  | .hbm, ⟨97, _⟩ => ⟨S16x8192, .f32⟩
  | _, _ => ⟨S16x128x30x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_8 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_call1_v0 : Ref sig .tc := ⟨.hbm, 77, rfl⟩
abbrev main_call1_cst : Ref sig .tc := ⟨.hbm, 78, rfl⟩
abbrev main_call1_v1 : Ref sig .tc := ⟨.hbm, 79, rfl⟩
abbrev main_call1_v2 : Ref sig .tc := ⟨.hbm, 80, rfl⟩
abbrev main_v62 : Ref sig .tc := ⟨.hbm, 81, rfl⟩
abbrev main_cst_9 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_call2_v0 : Ref sig .tc := ⟨.hbm, 88, rfl⟩
abbrev main_call2_cst : Ref sig .tc := ⟨.hbm, 89, rfl⟩
abbrev main_call2_v1 : Ref sig .tc := ⟨.hbm, 90, rfl⟩
abbrev main_call2_v2 : Ref sig .tc := ⟨.hbm, 91, rfl⟩
abbrev main_v68 : Ref sig .tc := ⟨.hbm, 92, rfl⟩
abbrev main_cst_10 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩

abbrev nD : Nat := 1
abbrev τ : Topo := Topo.v7x

variable {F : FTy → Type} [FloatOps F]
-- ==== Proof.Block.lean ====
/-
  The kernel's body treats the four images of a block alike. This module names the stages of what it does to one image
  and states that the block it leaves in the output window is the four images' results, one above the other.
-/
module

public import proofs.«01_k».proof.Proof.Gen.KernelIdeal.Frame

@[expose] public section

set_option maxRecDepth 16384

noncomputable section

namespace Cert.KernelIdeal.Block

open Cert.KernelIdeal Cert.KernelIdeal.Gen Idealize.ShloMosaic Idealize.SL.Sem

variable {F : FTy → Type} [FloatOps F] [Named F]

/-- The five shadows' centroids, one shadow's rows below the other's. -/
def stack (c0 c1 c2 c3 c4 : Vec F S64x1x128 .f32) : FVec F S320x128 .f32 :=
  concatenate S320x128 0 [⟨S64x128, shapeCast S64x128 c0 shapeCasts_S64x1x128_S64x128⟩,
    ⟨S64x128, shapeCast S64x128 c1 shapeCasts_S64x1x128_S64x128⟩,
    ⟨S64x128, shapeCast S64x128 c2 shapeCasts_S64x1x128_S64x128⟩,
    ⟨S64x128, shapeCast S64x128 c3 shapeCasts_S64x1x128_S64x128⟩,
    ⟨S64x128, shapeCast S64x128 c4 shapeCasts_S64x1x128_S64x128⟩] concatenates_S64x128_S64x128_S64x128_S64x128_S64x128_S320x128_d0

/-- The bias of each row: its norm, scaled. -/
def bias (w : FVec F S320x128 .f32) : FVec F S320x1 .f32 :=
  mulf (broadcast S320x1 (Named.named κ "neg_alpha_log2e" 0xC31044FE#32))
    (sqrt (shapeCast S320x1 (multiReduction .add [1] S320 (mulf w w) 0x00000000#32 reduces_S320x128_S320 (.inl rfl) rfl) shapeCasts_S320_S320x1))

/-- The rows, scaled. -/
def scaled (w : FVec F S320x128 .f32) : FVec F S320x128 .f32 :=
  mulf (broadcast S320x128 (Named.named κ "two_alpha_log2e" 0x439044FE#32)) w

/-- The scaled rows rounded to bf16, -/
def hiW (w : FVec F S320x128 .f32) : FVec F S320x128 .bf16 := truncf .bf16 (scaled w) bitsLt_bf16_f32

/-- and what the rounding left over. -/
def loW (w : FVec F S320x128 .f32) : FVec F S320x128 .bf16 :=
  truncf .bf16 (subf (scaled w) (extf .f32 (hiW w) bitsLt_bf16_f32)) bitsLt_bf16_f32

/-- Rounded part beside the rest, -/
def hiLo (w : FVec F S320x128 .f32) : FVec F S320x256 .bf16 :=
  concatenate S320x256 1 [⟨S320x128, hiW w⟩, ⟨S320x128, loW w⟩] concatenates_S320x128_S320x128_S320x256_d1

/-- and the rest beside the rounded part. -/
def loHi (w : FVec F S320x128 .f32) : FVec F S320x256 .bf16 :=
  concatenate S320x256 1 [⟨S320x128, loW w⟩, ⟨S320x128, hiW w⟩] concatenates_S320x128_S320x128_S320x256_d1

/-- The first shadow's centroids. -/
def first (w : FVec F S320x128 .f32) : FVec F S64x128 .f32 :=
  extractStridedSlice S64x128 ![0, 0] w slices_S320x128_o0_0_S64x128

/-- An image rounded to bf16, -/
def hiX (x : Vec F S1x128x1200 .f32) : FVec F S128x1200 .bf16 :=
  truncf .bf16 (shapeCast S128x1200 x shapeCasts_S1x128x1200_S128x1200) bitsLt_bf16_f32

/-- what the rounding left over, -/
def loX (x : Vec F S1x128x1200 .f32) : FVec F S128x1200 .bf16 :=
  truncf .bf16 (subf (shapeCast S128x1200 x shapeCasts_S1x128x1200_S128x1200) (extf .f32 (hiX x) bitsLt_bf16_f32)) bitsLt_bf16_f32

/-- and the two, one above the other. -/
def split (x : Vec F S1x128x1200 .f32) : FVec F S256x1200 .bf16 :=
  concatenate S256x1200 0 [⟨S128x1200, hiX x⟩, ⟨S128x1200, loX x⟩] concatenates_S128x1200_S128x1200_S256x1200_d0

/-- The logits of an image's pixels for every shadow and cluster. -/
def conv (b : FVec F S320x1 .f32) (wa wb : FVec F S320x256 .bf16) (xb : FVec F S256x1200 .bf16) : FVec F S320x1200 .f32 :=
  addf (addf (matmul dot_S320x256_S256x1200_S320x1200_1_0_0_1_n_n none wa xb (constant S320x1200 .f32 0x00000000#32))
      (matmul dot_S320x256_S256x1200_S320x1200_1_0_0_1_n_n none wb xb (constant S320x1200 .f32 0x00000000#32)))
    (broadcastTo S320x1200 b broadcasts_S320x1_S320x1200)

/-- The exponentials of one shadow's logits below their maximum over the clusters, -/
def overK (v : FVec F S64x1200 .f32) : FVec F S64x1200 .f32 :=
  exp2 (subf v (broadcastTo S64x1200 (shapeCast S1x1200 (multiReduction .maximumf [0] S1200 v 0xFF800000#32 reduces_S64x1200_S1200 (.inl rfl) rfl) shapeCasts_S1200_S1x1200) broadcasts_S1x1200_S64x1200))

/-- and their sum over the clusters. -/
def sumK (v : FVec F S64x1200 .f32) : FVec F S1x1200 .f32 :=
  shapeCast S1x1200 (multiReduction .add [0] S1200 (overK v) 0x00000000#32 reduces_S64x1200_S1200 (.inl rfl) rfl) shapeCasts_S1200_S1x1200

/-- The exponentials of one shadow's logits below the maximum over the shadows. -/
def overS (m v : FVec F S64x1200 .f32) : FVec F S64x1200 .f32 := exp2 (subf v m)

/-- One shadow's factor of the numerator. -/
def factor (d m v : FVec F S64x1200 .f32) : FVec F S64x1200 .f32 :=
  addf (mulf (broadcastTo S64x1200 (sumK v) broadcasts_S1x1200_S64x1200) d) (mulf (overK v) (overS m v))

/-- The maximum of the five shadows' logits, -/
def maxS (v0 v1 v2 v3 v4 : FVec F S64x1200 .f32) : FVec F S64x1200 .f32 :=
  maximumf (maximumf (maximumf (maximumf v0 v1) v2) v3) v4

/-- the sum of their exponentials below a given maximum, -/
def sumS (m v0 v1 v2 v3 v4 : FVec F S64x1200 .f32) : FVec F S64x1200 .f32 :=
  addf (addf (addf (addf (overS m v0) (overS m v1)) (overS m v2)) (overS m v3)) (overS m v4)

/-- and the product over the shadows, as one quotient. -/
def quotient (d m v0 v1 v2 v3 v4 : FVec F S64x1200 .f32) : FVec F S64x1200 .f32 :=
  divf (mulf (mulf (mulf (mulf (factor d m v0) (factor d m v1)) (factor d m v2)) (factor d m v3)) (factor d m v4))
    (mulf (mulf (mulf (mulf d d) (mulf d d)) d)
      (broadcastTo S64x1200 (mulf (mulf (mulf (mulf (sumK v0) (sumK v1)) (sumK v2)) (sumK v3)) (sumK v4)) broadcasts_S1x1200_S64x1200))

/-- The weight of each cluster at each pixel, from the logits. -/
def weight (v0 v1 v2 v3 v4 : FVec F S64x1200 .f32) : FVec F S64x1200 .f32 :=
  quotient (sumS (maxS v0 v1 v2 v3 v4) v0 v1 v2 v3 v4) (maxS v0 v1 v2 v3 v4) v0 v1 v2 v3 v4

/-- The five shadows' logits cut out of the stack, and the weight from them. -/
def weightOf (v : FVec F S320x1200 .f32) : FVec F S64x1200 .f32 :=
  weight (extractStridedSlice S64x1200 ![0, 0] v slices_S320x1200_o0_0_S64x1200)
    (extractStridedSlice S64x1200 ![64, 0] v slices_S320x1200_o64_0_S64x1200)
    (extractStridedSlice S64x1200 ![128, 0] v slices_S320x1200_o128_0_S64x1200)
    (extractStridedSlice S64x1200 ![192, 0] v slices_S320x1200_o192_0_S64x1200)
    (extractStridedSlice S64x1200 ![256, 0] v slices_S320x1200_o256_0_S64x1200)

/-- The products of weights and image, the two halves of the image apart. -/
def halves (g : FVec F S64x1200 .f32) (xb : FVec F S256x1200 .bf16) : FVec F S64x256 .f32 :=
  matmul dot_S64x1200_S256x1200_S64x256_1_1_0_0_n_n none (truncf .bf16 g bitsLt_bf16_f32) xb (constant S64x256 .f32 0x00000000#32)

/-- The aggregate of an image: weights times image, less the weights' sum times the first shadow's centroid. -/
def aggregate (rep : FVec F S64x128 .f32) (g : FVec F S64x1200 .f32) (xb : FVec F S256x1200 .bf16) : FVec F S64x128 .f32 :=
  subf (addf (extractStridedSlice S64x128 ![0, 0] (halves g xb) slices_S64x256_o0_0_S64x128)
      (extractStridedSlice S64x128 ![0, 128] (halves g xb) slices_S64x256_o0_128_S64x128))
    (mulf rep (broadcastTo S64x128 (shapeCast S64x1 (multiReduction .add [1] S64 g 0x00000000#32 reduces_S64x1200_S64 (.inl rfl) rfl) shapeCasts_S64_S64x1) broadcasts_S64x1_S64x128))

/-- Each row scaled to norm one. -/
def unitRows (o : FVec F S64x128 .f32) : FVec F S64x128 .f32 :=
  mulf o (broadcastTo S64x128 (rsqrt (maximumf (shapeCast S64x1 (multiReduction .add [1] S64 (mulf o o) 0x00000000#32 reduces_S64x128_S64 (.inl rfl) rfl) shapeCasts_S64_S64x1)
    (broadcast S64x1 (Named.named κ "eps_squared" 0x179ABE15#32)))) broadcasts_S64x1_S64x128)

/-- The whole array scaled to norm one. -/
def unitAll (o : FVec F S64x128 .f32) : FVec F S64x128 .f32 :=
  mulf o (broadcast S64x128 (Scalar.rsqrt (Scalar.maximumf (extractAt ![0, 0, 0] (shapeCast S1x1x1 (multiReduction .add [1, 2] S1 (shapeCast S1x64x128 (mulf o o) shapeCasts_S64x128_S1x64x128) 0x00000000#32 reduces_S1x64x128_S1 (.inl rfl) rfl) shapeCasts_S1_S1x1x1) inpos_S1x1x1_p0_0_0)
    (Named.named κ "eps_squared" 0x179ABE15#32))))

/-- One image's weights, from the stacked centroids and the image. -/
def weights (w : FVec F S320x128 .f32) (x : Vec F S1x128x1200 .f32) : FVec F S64x1200 .f32 :=
  weightOf (conv (bias w) (hiLo w) (loHi w) (split x))

/-- One image's result, from the stacked centroids and the image. -/
def image (w : FVec F S320x128 .f32) (x : Vec F S1x128x1200 .f32) : FVec F S1x64x128 .f32 :=
  shapeCast S1x64x128 (unitAll (unitRows (aggregate (first w) (weights w x) (split x)))) shapeCasts_S64x128_S1x64x128

/-- The stacked centroids of the centroids' window. -/
def stackOf (c : Vec F S64x5x128 .f32) : FVec F S320x128 .f32 :=
  stack (View.ld c r0_0) (View.ld c r0_1) (View.ld c r0_2) (View.ld c r0_3) (View.ld c r0_4)

set_option maxHeartbeats 4000000 in
/-- The block the body leaves: the four images' results. -/
theorem out_eq (x : Vec F S4x128x1200 .f32) (c : Vec F S64x5x128 .f32) :
    out0_2 x c = View.canon [⟨r0_12, image (stackOf c) (View.ld x r0_11)⟩, ⟨r0_10, image (stackOf c) (View.ld x r0_9)⟩,
      ⟨r0_8, image (stackOf c) (View.ld x r0_7)⟩, ⟨r0_6, image (stackOf c) (View.ld x r0_5)⟩] := by
  unfold_out out0_2
  rfl

end Cert.KernelIdeal.Block

end
-- ==== Proof.Array.lean ====
/-
  The array the kernel's region leaves: every image's result, one image's function applied to each image.
-/
module

public import proofs.«01_k».proof.Proof.Block
public import Idealize.ShloMosaic.Lib.Pointwise
public import Idealize.ShloMosaic.Lib.Pipeline.ValueKit

@[expose] public section

set_option maxRecDepth 16384

noncomputable section

namespace Cert.KernelIdeal.Array

open Cert.KernelIdeal Cert.KernelIdeal.Gen Cert.KernelIdeal.Block Idealize.ShloMosaic Idealize.ShloMosaic.TcCoe Idealize.SL.Sem
open Idealize.ShloMosaic.Pipeline (Dat)

variable {F : FTy → Type} [FloatOps F] [Named F]

/-- One of the four images of a block. -/
def ofBlock (x : Vec F S4x128x1200 .f32) (a : Fin 4) : Vec F S1x128x1200 .f32 := fun j => x (ix3 a (j 1) (j 2))

/-- One of the sixteen images. -/
def ofAll (x : Vec F S16x128x1200 .f32) (n : Fin 16) : Vec F S1x128x1200 .f32 := fun j => x (ix3 n (j 1) (j 2))

/-- Every image's result. -/
def all (x : Vec F S16x128x1200 .f32) (c : Vec F S64x5x128 .f32) : Vec F S16x64x128 .f32 :=
  fun i => image (stackOf c) (ofAll x (i 0)) (ix3 0 (i 1) (i 2))

/-- A load at an image's offset in a block reads that image. -/
theorem ld_image (x : Vec F S4x128x1200 .f32) (a : Fin 4) (off : Fin 3 → Nat) (hoff : off = ![a.val, 0, 0])
    (inb : ∀ b, off b + S1x128x1200.size b ≤ S4x128x1200.size b) :
    View.ld x (Rect.unit (s := S4x128x1200) off S1x128x1200.size inb) = ofBlock x a := by
  subst hoff
  funext j
  refine congrArg x (funext fun b => Fin.ext ?_)
  have h0 : (j 0).val < 1 := (j 0).isLt
  refine (ValueKit.rect_emb_unit_val _ _ _ j b).trans ?_
  match b with
  | ⟨0, _⟩ => show a.val + (j 0).val = a.val; omega
  | ⟨1, _⟩ => exact Nat.zero_add _
  | ⟨2, _⟩ => exact Nat.zero_add _

/-- An entry of the block that the body leaves is the entry of its image's result. -/
theorem out_apply (x : Vec F S4x128x1200 .f32) (c : Vec F S64x5x128 .f32) (y : S4x64x128.Idx) :
    out0_2 x c y = image (stackOf c) (ofBlock x (y 0)) (ix3 0 (y 1) (y 2)) := by
  have l0 : View.ld x r0_5 = ofBlock x 0 := ld_image x 0 _ rfl _
  have l1 : View.ld x r0_7 = ofBlock x 1 := ld_image x 1 _ rfl _
  have l2 : View.ld x r0_9 = ofBlock x 2 := ld_image x 2 _ rfl _
  have l3 : View.ld x r0_11 = ofBlock x 3 := ld_image x 3 _ rfl _
  rw [out_eq, l0, l1, l2, l3]
  generalize stackOf c = w
  refine View.canon_apply_of_pieces (fun y : S4x64x128.Idx => image w (ofBlock x (y 0)) (ix3 0 (y 1) (y 2))) _ ?_ y (cover0_2 _ _ _ _ y)
  have piece : ∀ (a : Fin 4) (off : Fin 3 → Nat) (hoff : off = ![a.val, 0, 0]) (inb : ∀ b, off b + S1x64x128.size b ≤ S4x64x128.size b)
      (z : S1x64x128.Idx), image w (ofBlock x a) z
        = (fun y : S4x64x128.Idx => image w (ofBlock x (y 0)) (ix3 0 (y 1) (y 2))) ((Rect.unit (s := S4x64x128) off S1x64x128.size inb).emb z) := by
    intro a off hoff inb z
    subst hoff
    have h0 : (z 0).val < 1 := (z 0).isLt
    have e := fun b => ValueKit.rect_emb_unit_val (s := S4x64x128) ![a.val, 0, 0] S1x64x128.size inb z b
    generalize (Rect.unit (s := S4x64x128) ![a.val, 0, 0] S1x64x128.size inb).emb z = y at e
    have e0 : y 0 = a := Fin.ext ((e 0).trans (by show a.val + (z 0).val = a.val; omega))
    have e1 : y 1 = z 1 := Fin.ext ((e 1).trans (Nat.zero_add _))
    have e2 : y 2 = z 2 := Fin.ext ((e 2).trans (Nat.zero_add _))
    dsimp only
    rw [e0, e1, e2]
    refine congrArg _ (funext fun b => ?_)
    match b with
    | ⟨0, _⟩ => exact Fin.ext (by show (z 0).val = 0; omega)
    | ⟨1, _⟩ => rfl
    | ⟨2, _⟩ => rfl
  intro p hp z
  simp only [List.mem_cons, List.mem_nil_iff, or_false] at hp
  rcases hp with rfl | rfl | rfl | rfl
  · exact piece 3 _ rfl inb_S4x64x128_S1x64x128_3_0_0 z
  · exact piece 2 _ rfl inb_S4x64x128_S1x64x128_2_0_0 z
  · exact piece 1 _ rfl inb_S4x64x128_S1x64x128_1_0_0 z
  · exact piece 0 _ rfl inb_S4x64x128_S1x64x128_0_0_0 z

variable (m : (ℓ : Loc nD τ sig) → Buf (Elt F) ℓ) (ρ : Dev nD → PrngReg)

/-- At each grid point the block of images read is the point's. -/
theorem index0 : ∀ t : Fin cfg0.N, win0_0.index t = ![t.val, 0, 0] := (by decide +kernel : ∀ t : Fin grid0.N, _)
/-- At each grid point the block of centroids read is the whole array. -/
theorem index1 : ∀ t : Fin cfg0.N, win0_1.index t = ![0, 0, 0] := (by decide +kernel : ∀ t : Fin grid0.N, _)
/-- At each grid point the block of results written is the point's. -/
theorem index2 : ∀ t : Fin cfg0.N, win0_2.index t = ![t.val, 0, 0] := (by decide +kernel : ∀ t : Fin grid0.N, _)

/-- The block of centroids read at a grid point is the array of centroids. -/
theorem centroids_block (c : Dev nD) (t : Fin cfg0.N) : iblk m c 1 t = V m c main_arg1 := by
  funext z
  blk_simp [iblk]
  refine congrArg (V m c main_arg1) (funext fun b => Fin.ext ?_)
  match b with
  | ⟨0, _⟩ => blk_simp [index1]
  | ⟨1, _⟩ => blk_simp [index1]
  | ⟨2, _⟩ => blk_simp [index1]

/-- Image `a` of the block read at point `t` is image `4 t + a` of the array. -/
theorem image_block (c : Dev nD) (t : Fin cfg0.N) (a : Fin 4) (n : Fin 16) (hn : n.val = t.val * 4 + a.val) :
    ofBlock (iblk m c 0 t) a = ofAll (V m c main_call0_v0) n := by
  funext z
  unfold ofBlock ofAll
  blk_simp [iblk]
  refine congrArg (V m c main_call0_v0) (funext fun b => Fin.ext ?_)
  match b with
  | ⟨0, _⟩ => blk_simp [index0]; exact hn.symm
  | ⟨1, _⟩ => blk_simp [index0]
  | ⟨2, _⟩ => blk_simp [index0]

/-- After all grid points the result array holds every image's result. -/
theorem final (c : Dev nD) : (dats m 0 c).arrAt 2 cfg0.N = all (V m c main_call0_v0) (V m c main_arg1) := by
  refine (dats m 0 c).arrAt_eq_of_covers 2 _ (by decide +kernel) fun t hf y => ?_
  blk_simp
  rw [after0_2]
  refine (out_apply _ _ y).trans ?_
  have h0 : ((win0_2.blk t).view.emb y 0 : ℕ) = t.val * 4 + (y 0).val := by blk_simp [index2]
  have h1 : ((win0_2.blk t).view.emb y 1 : ℕ) = (y 1).val := by blk_simp [index2]
  have h2 : ((win0_2.blk t).view.emb y 2 : ℕ) = (y 2).val := by blk_simp [index2]
  rw [centroids_block m c t]
  unfold all
  generalize (win0_2.blk t).view.emb y = i at h0 h1 h2 ⊢
  have e1 : y 1 = i 1 := Fin.ext h1.symm
  have e2 : y 2 = i 2 := Fin.ext h2.symm
  rw [image_block m c t (y 0) (i 0) h0]
  exact congrArg _ (by rw [← e1, ← e2])

end Cert.KernelIdeal.Array

end
-- ==== Proof.Run.lean ====
/-
  The kernel's run: its result, the flattened results of all images, and the arguments unchanged.
-/
module

public import proofs.«01_k».proof.Proof.Array

@[expose] public section

set_option maxRecDepth 16384

noncomputable section

namespace Cert.KernelIdeal.Result

open Cert.KernelIdeal Cert.KernelIdeal.Gen Cert.KernelIdeal.Array Idealize.ShloMosaic Idealize.ShloMosaic.TcCoe Idealize.SL.Sem Idealize.ShloMosaic.StableHlo
open Idealize.ShloMosaic.Pipeline (Dat)

variable {F : FTy → Type} [FloatOps F] [Named F]

/-- The kernel's result as a function of its arguments. -/
def value (x : Vec F S16x128x30x40 .f32) (c : Vec F S64x5x128 .f32) : Vec F S16x8192 .f32 :=
  shapeCast S16x8192 (all (shapeCast S16x128x1200 x shapeCasts_S16x128x30x40_S16x128x1200) c) shapeCasts_S16x64x128_S16x8192

variable (m : (ℓ : Loc nD τ sig) → Buf (Elt F) ℓ) (ρ : Dev nD → PrngReg)

/-- The region is handed the images with their pixels flattened. -/
theorem entry (c : Dev nD) : V m c main_call0_v0
    = shapeCast S16x128x1200 (m ((c : Thread nD τ).loc main_arg0)) shapeCasts_S16x128x30x40_S16x128x1200 := by
  show StableHlo.after (List.flatten [hostOps0]) (fun b => m (c, b)) (Proc.devRef .tc main_call0_v0) = _
  simp only [hostOps0, List.flatten_cons, List.flatten_nil, List.append_nil]
  after_results
  rfl

/-- The reshape after the region leaves every image's result, flattened. -/
theorem tail (c : Dev nD) : Pipeline.afterTail₀ cfgs (dats m) 0 (V0 m) [hostOps1] c main_v0
    = value (m ((c : Thread nD τ).loc main_arg0)) (m ((c : Thread nD τ).loc main_arg1)) := by
  unfold Pipeline.afterTail₀
  have h : Pipeline.withArrays (cfgs 0).spec c (V0 m c) (fun w => (dats m 0 c).arrAt w (cfgs 0).N) (Proc.devRef .tc main_call0_v1)
      = all (V m c main_call0_v0) (V m c main_arg1) :=
    (Pipeline.withArrays_arr (cfgs 0).spec (by decide) c (V0 m c) (fun w => (dats m 0 c).arrAt w (cfgs 0).N) 2).trans (final m c)
  rw [entry, V_main_arg1] at h
  generalize Pipeline.withArrays (cfgs 0).spec c (V0 m c) (fun w => (dats m 0 c).arrAt w (cfgs 0).N) = W at h ⊢
  unfold value
  rw [← h]
  simp only [hostOps1, List.flatten_cons, List.flatten_nil, List.append_nil]
  after_results
  rfl

/-- The kernel's run ends with that function of the arguments in its result, and with its arguments as they were. -/
theorem run : θ_run defs (onTc (τ := τ) (main (F := F))) ⟨m, fun _ => 0, ρ⟩ fun r => ∀ c : Dev nD,
      r.2.mem ((c : Thread nD τ).loc main_v0) = value (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v0 (Pipeline.mem_restRefs_of main_v0 (by decide) (by decide))).trans (tail m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c)))⟩)
    (run_main m ρ)

end Cert.KernelIdeal.Result

end
-- ==== Proof.Consts.lean ====
/-
  The constants that the two programs write as words, and the kernel's named constants, as the numbers they denote.
-/
module

public import proofs.«01_k».proof.KernelIdeal
public import Idealize.ShloMosaic.PureOps.IdealRules
public import Idealize.ShloMosaic.PureOps.Ideal.Laws

@[expose] public section

noncomputable section

namespace Cert.Proof.Consts

open Idealize.ShloMosaic

/-- The small number that both programs divide by at least. -/
def eps : ℝ := 2305843 / 2305843009213693952

/-- The small number is positive. -/
theorem eps_pos : 0 < eps := by unfold eps; norm_num

/-- The word 0xFF800000 denotes −∞. -/
theorem negInf : Ideal.ofBits .f32 0xFF800000#32 = (⊥ : EReal) := by
  simp [Ideal.ofBits, Ideal.ieee]

/-- The word 0x7F800000 denotes +∞. -/
theorem posInf : Ideal.ofBits .f32 0x7F800000#32 = (⊤ : EReal) := by
  simp [Ideal.ofBits, Ideal.ieee]

/-- The word 0x00000000 denotes zero. -/
theorem zero : Ideal.ofBits .f32 0x00000000#32 = ((0 : ℝ) : EReal) := by
  simp [Ideal.ofBits, Ideal.ieee]

/-- The word 0x3F800000 denotes one. -/
theorem one : Ideal.ofBits .f32 0x3F800000#32 = ((1 : ℝ) : EReal) := by
  simp [Ideal.ofBits, Ideal.ieee, -EReal.coe_mul]; norm_num

/-- The word 0x43480000 denotes 200. -/
theorem twoAlpha : Ideal.ofBits .f32 0x43480000#32 = ((200 : ℝ) : EReal) := by
  simp [Ideal.ofBits, Ideal.ieee, -EReal.coe_mul]; norm_num

/-- The word 0xC2C80000 denotes −100. -/
theorem negAlpha : Ideal.ofBits .f32 0xC2C80000#32 = ((-100 : ℝ) : EReal) := by
  simp [Ideal.ofBits, Ideal.ieee, -EReal.coe_mul]; norm_num

/-- The word 0x2B8CBCCC denotes the small number. -/
theorem epsWord : Ideal.ofBits .f32 0x2B8CBCCC#32 = ((eps : ℝ) : EReal) := by
  simp [Ideal.ofBits, Ideal.ieee, eps, -EReal.coe_mul]; norm_num

/-- The constant named `neg_alpha_log2e` denotes −100 over the logarithm of two. -/
theorem negAlphaName : Named.named (F := Ideal) Cert.KernelIdeal.κ "neg_alpha_log2e" (φ := .f32) 0xC31044FE#32
    = (((-100) * (Real.log 2)⁻¹ : ℝ) : EReal) := IdealRules.named_const.ideal_named_scalar _ _ _ _ rfl

/-- The constant named `two_alpha_log2e` denotes 200 over the logarithm of two. -/
theorem twoAlphaName : Named.named (F := Ideal) Cert.KernelIdeal.κ "two_alpha_log2e" (φ := .f32) 0x439044FE#32
    = ((200 * (Real.log 2)⁻¹ : ℝ) : EReal) := IdealRules.named_const.ideal_named_scalar _ _ _ _ rfl

/-- The constant named `eps_squared` denotes the small number's square. -/
theorem epsSqName : Named.named (F := Ideal) Cert.KernelIdeal.κ "eps_squared" (φ := .f32) 0x179ABE15#32
    = ((eps * eps : ℝ) : EReal) := IdealRules.named_const.ideal_named_scalar _ _ _ _ rfl

end Cert.Proof.Consts

end
-- ==== Proof.Finite.lean ====
/-
  What the precondition says: every entry of the centroids is a real number.
-/
module

public import proofs.«01_k».proof.Proof.Consts
public import proofs.«01_k».proof.Proof.Gen.Pre_finite_centroids
public import Idealize.ShloMosaic.Lib.Pointwise
public import Idealize.ShloMosaic.Lib.ReduceAll

@[expose] public section

set_option maxRecDepth 16384

noncomputable section

namespace Cert.Pre_finite_centroids.Read

open Cert.Pre_finite_centroids Cert.Pre_finite_centroids.Facts Idealize.ShloMosaic Cert.Proof.Consts

/-- A number whose absolute value is below +∞ is a real number. -/
theorem real_of_abs_lt (x : EReal) (h : max x (-x) < ⊤) : ∃ r : ℝ, x = ((r : ℝ) : EReal) := by
  induction x with
  | bot => simp at h
  | coe r => exact ⟨r, rfl⟩
  | top => simp at h

/-- An entry found below +∞ in absolute value is a real number. -/
theorem real_of_entry {s : Shape} (x : FVec Ideal s .f32) (h : S_.BroadcastsInDim s (![] : Fin 0 → Fin s.rank)) (i : s.Idx)
    (e : cmpf .olt (Host.absf x) (broadcastInDim s ![] h (constant S_ .f32 0x7F800000#32)) i = 1#1) : ∃ r : ℝ, x i = ((r : ℝ) : EReal) := by
  refine real_of_abs_lt _ ?_
  rw [← posInf]
  have e' : Ideal.cmp .olt (max (x i) (-x i)) (Ideal.ofBits .f32 0x7F800000#32) = 1#1 := e
  by_contra hn
  simp [Ideal.cmp, hn] at e'

instance : Subsingleton S_.Idx := ⟨fun a b => funext fun i => i.elim0⟩

variable [Facts]

/-- Under the precondition every entry of the centroids is a real number. -/
theorem real_centroids (x : FVec Ideal S16x128x30x40 .f32) (w : FVec Ideal S64x5x128 .f32) (h : fn x w = fun _ => 1#1) (i : S64x5x128.Idx) :
    ∃ r : ℝ, w i = ((r : ℝ) : EReal) :=
  real_of_entry w bcast_S_S64x5x128 i (Host.reduce_andi_all _ _ _ _ _ (congrFun h ix0) i)

end Cert.Pre_finite_centroids.Read

end
-- ==== Proof.Extended.lean ====
/-
  Operations on extended reals at finite arguments: each is the real operation.
-/
module

public import proofs.«01_k».proof.Proof.Consts

@[expose] public section

noncomputable section

namespace Cert.Proof.Extended

open Idealize.ShloMosaic Cert.Proof.Consts

/-- A sum of finite numbers is finite: their sum as real numbers. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two finite numbers is the larger of the two as real numbers. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The maximum of a family, started at −∞, is −∞ or a finite number. -/
theorem fold_max_cases {ι : Type*} (s : Finset ι) (f : ι → ℝ) :
    (s = ∅ ∧ s.fold max (⊥ : EReal) (fun i => ((f i : ℝ) : EReal)) = ⊥)
      ∨ ∃ m : ℝ, s.fold max (⊥ : EReal) (fun i => ((f i : ℝ) : EReal)) = (m : EReal) := by
  classical
  induction s using Finset.induction_on with
  | empty => exact .inl ⟨rfl, Finset.fold_empty⟩
  | insert a s ha ih =>
    right
    rw [Finset.fold_insert ha]
    rcases ih with ⟨_, h⟩ | ⟨m, h⟩
    · exact ⟨f a, by rw [h]; exact max_eq_left bot_le⟩
    · exact ⟨max (f a) m, by rw [h, max_coe]⟩

/-- The maximum of a nonempty family of finite numbers, started at −∞, is finite. -/
theorem fold_max_coe {n : Nat} (f : Fin (n + 1) → ℝ) :
    ∃ m : ℝ, (Finset.univ : Finset (Fin (n + 1))).fold max (⊥ : EReal) (fun i => ((f i : ℝ) : EReal)) = (m : EReal) := by
  rcases fold_max_cases Finset.univ f with ⟨h, _⟩ | h
  · exact absurd h (Finset.univ_nonempty.ne_empty)
  · exact h

/-- A finite number over a finite number that is not zero is their quotient as real numbers. -/
theorem div_coe_coe (a b : ℝ) (hb : b ≠ 0) : Ideal.div (a : EReal) (b : EReal) = ((a / b : ℝ) : EReal) := by
  rw [Ideal.div_coe hb, ← EReal.coe_mul, mul_one_div]

/-- The square root of a finite number that is not negative is its square root as a real number. -/
theorem sqrt_coe_nonneg (a : ℝ) (ha : 0 ≤ a) : Ideal.sqrt (a : EReal) = ((Real.sqrt a : ℝ) : EReal) := by
  rw [Ideal.sqrt_coe, if_neg (not_lt.mpr ha)]

/-- The reciprocal square root of a positive finite number is the inverse of its square root. -/
theorem rsqrt_coe_pos (a : ℝ) (ha : 0 < a) : Ideal.rsqrt (a : EReal) = (((Real.sqrt a)⁻¹ : ℝ) : EReal) := by
  rw [Ideal.rsqrt_coe, if_neg (not_lt.mpr ha.le), if_neg ha.ne']

/-- Two to the power `a / log 2 − b` is the exponential of `a` times the exponential of `−b log 2`. -/
theorem exp2_div_log (a b : ℝ) : Ideal.exp2 (((a / Real.log 2 - b : ℝ)) : EReal) = ((Real.exp a * Real.exp (-(Real.log 2 * b)) : ℝ) : EReal) := by
  have h2 : Real.log 2 ≠ 0 := (Real.log_pos (by norm_num)).ne'
  rw [Ideal.exp2_coe]
  congr 1
  show (2 : ℝ) ^ (a / Real.log 2 - b) = _
  rw [Real.rpow_def_of_pos (by norm_num), ← Real.exp_add]
  congr 1
  field_simp
  ring

/-- The square root of the larger of `r` and `e²` is the larger of the square root of `r` and `e`, for `e` not negative. -/
theorem sqrt_max_sq (r e : ℝ) (he : 0 ≤ e) : Real.sqrt (max r (e * e)) = max (Real.sqrt r) e := by
  rw [Real.sqrt_monotone.map_max, Real.sqrt_mul_self he]

/-- A product with the reciprocal square root of the larger of `r` and the small number's square is a quotient by the larger of
    the square root of `r` and the small number. -/
theorem mul_rsqrt_max (a r : ℝ) : (a : EReal) * Ideal.rsqrt (max (r : EReal) ((eps * eps : ℝ) : EReal))
    = ((a / max (Real.sqrt r) eps : ℝ) : EReal) := by
  rw [max_coe, rsqrt_coe_pos _ (lt_max_of_lt_right (mul_pos eps_pos eps_pos)), ← EReal.coe_mul, sqrt_max_sq _ _ eps_pos.le,
    div_eq_mul_inv]

/-- For finite numbers the quotient by the larger of a norm and the small number is the real quotient. -/
theorem div_max_sqrt (a r : ℝ) (hr : 0 ≤ r) : Ideal.div (a : EReal) (max (Ideal.sqrt (r : EReal)) ((eps : ℝ) : EReal))
    = ((a / max (Real.sqrt r) eps : ℝ) : EReal) := by
  rw [sqrt_coe_nonneg _ hr, max_coe, div_coe_coe _ _ (lt_max_of_lt_right eps_pos).ne']

end Cert.Proof.Extended

end
-- ==== Proof.Formula.lean ====
/-
  What both programs compute of one image, over the reals, and the equations of real numbers between the two forms.
-/
module

public import proofs.«01_k».proof.Proof.Consts

@[expose] public section

noncomputable section

namespace Cert.Proof.Formula

open Cert.Proof.Consts

/-- The logit of pixel `p` for cluster `k` and shadow `s`. -/
def logit (C : Fin 64 → Fin 5 → Fin 128 → ℝ) (X : Fin 128 → Fin 1200 → ℝ) (k : Fin 64) (s : Fin 5) (p : Fin 1200) : ℝ :=
  (∑ d, 200 * C k s d * X d p) + (-100) * Real.sqrt (∑ d, C k s d * C k s d)

/-- The softmax of logits over the clusters, -/
def softK (l : Fin 64 → Fin 5 → Fin 1200 → ℝ) (k : Fin 64) (s : Fin 5) (p : Fin 1200) : ℝ :=
  Real.exp (l k s p) / ∑ j, Real.exp (l j s p)

/-- and over the shadows. -/
def softS (l : Fin 64 → Fin 5 → Fin 1200 → ℝ) (k : Fin 64) (s : Fin 5) (p : Fin 1200) : ℝ :=
  Real.exp (l k s p) / (Real.exp (l k 0 p) + Real.exp (l k 1 p) + Real.exp (l k 2 p) + Real.exp (l k 3 p) + Real.exp (l k 4 p))

/-- The weight of cluster `k` at pixel `p`: the product over the shadows of one plus the two softmaxes' product. -/
def wt (l : Fin 64 → Fin 5 → Fin 1200 → ℝ) (k : Fin 64) (p : Fin 1200) : ℝ :=
  (1 + softK l k 0 p * softS l k 0 p) * (1 + softK l k 1 p * softS l k 1 p) * (1 + softK l k 2 p * softS l k 2 p)
    * (1 + softK l k 3 p * softS l k 3 p) * (1 + softK l k 4 p * softS l k 4 p)

/-- The aggregate: weights times image, less the weights' sum times the centroid of the first shadow. -/
def agg (g : Fin 64 → Fin 1200 → ℝ) (R : Fin 64 → Fin 128 → ℝ) (X : Fin 128 → Fin 1200 → ℝ) (k : Fin 64) (d : Fin 128) : ℝ :=
  (∑ p, g k p * X d p) - R k d * ∑ p, g k p

/-- Each row over its norm, -/
def rows (o : Fin 64 → Fin 128 → ℝ) (k : Fin 64) (d : Fin 128) : ℝ :=
  o k d / max (Real.sqrt (∑ e, o k e * o k e)) eps

/-- and the whole over its norm. -/
def whole (o : Fin 64 → Fin 128 → ℝ) (k : Fin 64) (d : Fin 128) : ℝ :=
  o k d / max (Real.sqrt (∑ j, ∑ e, o j e * o j e)) eps

/-- One image's result. -/
def result (C : Fin 64 → Fin 5 → Fin 128 → ℝ) (X : Fin 128 → Fin 1200 → ℝ) : Fin 64 → Fin 128 → ℝ :=
  whole (rows (agg (wt (logit C X)) (fun k d => C k 0 d) X))

/-- A sum of exponentials over the clusters is positive. -/
theorem sumExp_pos (f : Fin 64 → ℝ) : 0 < ∑ j, Real.exp (f j) :=
  Finset.sum_pos (fun _ _ => Real.exp_pos _) Finset.univ_nonempty

/-- One factor of the numerator, its common scales taken out. -/
theorem factor_eq (A a D b E : ℝ) (hA : 0 < A) (ha : 0 < a) (hD : 0 < D) (hb : 0 < b) :
    (A * a) * (D * b) + (E * a) * (E * b) = (A * a) * (D * b) * (1 + E / A * (E / D)) := by
  field_simp

/-- The one quotient is the product over the shadows. -/
theorem quotient_eq (A a E : Fin 5 → ℝ) (D b : ℝ) (hA : ∀ s, 0 < A s) (ha : ∀ s, 0 < a s) (hD : 0 < D) (hb : 0 < b) :
    ((A 0 * a 0) * (D * b) + (E 0 * a 0) * (E 0 * b)) * ((A 1 * a 1) * (D * b) + (E 1 * a 1) * (E 1 * b))
        * ((A 2 * a 2) * (D * b) + (E 2 * a 2) * (E 2 * b)) * ((A 3 * a 3) * (D * b) + (E 3 * a 3) * (E 3 * b))
        * ((A 4 * a 4) * (D * b) + (E 4 * a 4) * (E 4 * b))
      / (((D * b) * (D * b)) * ((D * b) * (D * b)) * (D * b) * ((A 0 * a 0) * (A 1 * a 1) * (A 2 * a 2) * (A 3 * a 3) * (A 4 * a 4)))
      = (1 + E 0 / A 0 * (E 0 / D)) * (1 + E 1 / A 1 * (E 1 / D)) * (1 + E 2 / A 2 * (E 2 / D)) * (1 + E 3 / A 3 * (E 3 / D))
        * (1 + E 4 / A 4 * (E 4 / D)) := by
  simp only [fun s => factor_eq (A s) (a s) D b (E s) (hA s) (ha s) hD hb]
  have h : ∀ s, A s * a s ≠ 0 := fun s => (mul_pos (hA s) (ha s)).ne'
  have h0 := h 0
  have h1 := h 1
  have h2 := h 2
  have h3 := h 3
  have h4 := h 4
  have hDb : D * b ≠ 0 := (mul_pos hD hb).ne'
  generalize (1 + E 0 / A 0 * (E 0 / D)) = t0
  generalize (1 + E 1 / A 1 * (E 1 / D)) = t1
  generalize (1 + E 2 / A 2 * (E 2 / D)) = t2
  generalize (1 + E 3 / A 3 * (E 3 / D)) = t3
  generalize (1 + E 4 / A 4 * (E 4 / D)) = t4
  generalize A 0 * a 0 = u0 at *
  generalize A 1 * a 1 = u1 at *
  generalize A 2 * a 2 = u2 at *
  generalize A 3 * a 3 = u3 at *
  generalize A 4 * a 4 = u4 at *
  generalize D * b = v at *
  field_simp

end Cert.Proof.Formula

end
-- ==== Proof.Weights.lean ====
/-
  The kernel's logits and weights of one image, at finite arguments, as real numbers.
-/
module

public import proofs.«01_k».proof.Proof.Block
public import proofs.«01_k».proof.Proof.Extended
public import proofs.«01_k».proof.Proof.Formula
public import Idealize.ShloMosaic.Lib.Pointwise

@[expose] public section

set_option maxRecDepth 16384

noncomputable section

namespace Cert.KernelIdeal.Weights

open Cert.KernelIdeal Cert.KernelIdeal.Gen Cert.KernelIdeal.Block Idealize.ShloMosaic Idealize.SL.Sem
open Cert.Proof.Consts Cert.Proof.Extended Cert.Proof.Formula

/-- Row `k` of shadow `s` in the stack. -/
def row (s : Fin 5) (k : Fin 64) : Fin 320 := ⟨64 * s.val + k.val, by omega⟩

/-- Row `k` of shadow `s` in the kernel's stack is that centroid. -/
theorem stackOf_row (c : Vec Ideal S64x5x128 .f32) (s : Fin 5) (k : Fin 64) (d : Fin 128) :
    stackOf c (ix2 (row s k) d) = c (ix3 k s d) := by
  pointwise [stackOf, stack, row]
  fin_vals s with hs
  · rw [dif_pos (by omega)]; congr 2 <;> (apply Fin.ext; simp [hs])
  · rw [dif_neg (by omega), dif_pos (by omega)]; congr 2 <;> (apply Fin.ext; simp [hs])
  · rw [dif_neg (by omega), dif_neg (by omega), dif_pos (by omega)]; congr 2 <;> (apply Fin.ext; simp [hs]; try omega)
  · rw [dif_neg (by omega), dif_neg (by omega), dif_neg (by omega), dif_pos (by omega)]; congr 2 <;> (apply Fin.ext; simp [hs]; try omega)
  · rw [dif_neg (by omega), dif_neg (by omega), dif_neg (by omega), dif_neg (by omega)]; congr 2 <;> (apply Fin.ext; simp [hs]; try omega)

/-- For finite arguments the kernel's logits are the reference's divided by the logarithm of two. -/
theorem conv_row (w : FVec Ideal S320x128 .f32) (x : Vec Ideal S1x128x1200 .f32) (W : Fin 128 → ℝ) (X : Fin 128 → Fin 1200 → ℝ)
    (r : Fin 320) (hw : ∀ d, w (ix2 r d) = ((W d : ℝ) : EReal)) (hx : ∀ d p, x (ix3 0 d p) = ((X d p : ℝ) : EReal)) (p : Fin 1200) :
    conv (bias w) (hiLo w) (loHi w) (split x) (ix2 r p)
      = ((((∑ d, 200 * W d * X d p) + (-100) * Real.sqrt (∑ d, W d * W d)) / Real.log 2 : ℝ) : EReal) := by
  pointwise [conv, bias, hiLo, loHi, split, hiW, loW, hiX, loX, scaled]
  simp only [hw, hx, twoAlphaName, negAlphaName, ← EReal.coe_mul, ← EReal.coe_sub, sum_coe]
  rw [sqrt_coe_nonneg _ (Finset.sum_nonneg fun d _ => mul_self_nonneg _)]
  simp only [← EReal.coe_mul, ← EReal.coe_add]
  congr 1
  simp only [sub_self, mul_zero, zero_mul, Finset.sum_const_zero, add_zero]
  rw [add_div, Finset.sum_div]
  congr 1
  · exact Finset.sum_congr rfl fun d _ => by ring
  · ring

/-- One shadow's powers of two below the maximum over the clusters are the logits' exponentials times a positive number that is
    the same for every cluster. -/
theorem overK_coe (v : FVec Ideal S64x1200 .f32) (l : Fin 64 → Fin 1200 → ℝ)
    (hv : ∀ k p, v (ix2 k p) = ((l k p / Real.log 2 : ℝ) : EReal)) (p : Fin 1200) :
    ∃ u : ℝ, 0 < u ∧ ∀ k, overK v (ix2 k p) = ((Real.exp (l k p) * u : ℝ) : EReal) := by
  obtain ⟨m, hm⟩ := fold_max_coe (n := 63) (fun k => l k p / Real.log 2)
  refine ⟨Real.exp (-(Real.log 2 * m)), Real.exp_pos _, fun k => ?_⟩
  pointwise [overK]
  simp only [hv, negInf]
  rw [hm, ← EReal.coe_sub]
  exact exp2_div_log _ _

/-- Their sum over the clusters is the sum of the exponentials times that number. -/
theorem sumK_coe (v : FVec Ideal S64x1200 .f32) (E : Fin 64 → ℝ) (u : ℝ) (p : Fin 1200)
    (hv : ∀ k, overK v (ix2 k p) = ((E k * u : ℝ) : EReal)) :
    sumK v (ix2 0 p) = (((∑ k, E k) * u : ℝ) : EReal) := by
  pointwise [sumK]
  simp only [hv, sum_coe]
  rw [Finset.sum_mul]

/-- A power of two below a common finite maximum is the logit's exponential times a number that depends on the maximum alone. -/
theorem overS_coe (m v : FVec Ideal S64x1200 .f32) (k : Fin 64) (p : Fin 1200) (l M : ℝ)
    (hm : m (ix2 k p) = ((M : ℝ) : EReal)) (hv : v (ix2 k p) = ((l / Real.log 2 : ℝ) : EReal)) :
    overS m v (ix2 k p) = ((Real.exp l * Real.exp (-(Real.log 2 * M)) : ℝ) : EReal) := by
  pointwise [overS]
  rw [hm, hv, ← EReal.coe_sub]
  exact exp2_div_log _ _

/-- For finite parts one shadow's factor of the numerator is the sum over the clusters times the sum over the shadows, plus the
    product of the two exponentials. -/
theorem factor_coe (d m v : FVec Ideal S64x1200 .f32) (k : Fin 64) (p : Fin 1200) (A D E H : ℝ)
    (hA : sumK v (ix2 0 p) = ((A : ℝ) : EReal)) (hD : d (ix2 k p) = ((D : ℝ) : EReal))
    (hE : overK v (ix2 k p) = ((E : ℝ) : EReal)) (hH : overS m v (ix2 k p) = ((H : ℝ) : EReal)) :
    factor d m v (ix2 k p) = ((A * D + E * H : ℝ) : EReal) := by
  pointwise [factor]
  rw [hA, hD, hE, hH, ← EReal.coe_mul, ← EReal.coe_mul, ← EReal.coe_add]

/-- For finite logits the kernel's one quotient is the formula's weight: the scales of the exponentials cancel. -/
theorem weight_coe (v : Fin 5 → FVec Ideal S64x1200 .f32) (l : Fin 64 → Fin 5 → Fin 1200 → ℝ)
    (hv : ∀ s k p, v s (ix2 k p) = ((l k s p / Real.log 2 : ℝ) : EReal)) (k : Fin 64) (p : Fin 1200) :
    weight (v 0) (v 1) (v 2) (v 3) (v 4) (ix2 k p) = ((wt l k p : ℝ) : EReal) := by
  choose a ha hE using fun s => overK_coe (v s) (fun k p => l k s p) (hv s) p
  have hA := fun s => sumK_coe (v s) _ (a s) p (hE s)
  obtain ⟨M, hM⟩ : ∃ M : ℝ, maxS (v 0) (v 1) (v 2) (v 3) (v 4) (ix2 k p) = ((M : ℝ) : EReal) := by
    pointwise [maxS]
    simp only [hv, max_coe]
    exact ⟨_, rfl⟩
  have hH := fun s => overS_coe (maxS (v 0) (v 1) (v 2) (v 3) (v 4)) (v s) k p (l k s p) M hM (hv s k p)
  unfold weight
  generalize maxS (v 0) (v 1) (v 2) (v 3) (v 4) = m at hH ⊢
  generalize hb : Real.exp (-(Real.log 2 * M)) = b at hH
  have hbp : 0 < b := hb ▸ Real.exp_pos _
  have hD : sumS m (v 0) (v 1) (v 2) (v 3) (v 4) (ix2 k p)
      = (((Real.exp (l k 0 p) + Real.exp (l k 1 p) + Real.exp (l k 2 p) + Real.exp (l k 3 p) + Real.exp (l k 4 p)) * b : ℝ) : EReal) := by
    pointwise [sumS]
    simp only [hH, ← EReal.coe_add, ← add_mul]
  generalize sumS m (v 0) (v 1) (v 2) (v 3) (v 4) = d at hD ⊢
  have hF := fun s => factor_coe d m (v s) k p _ _ _ _ (hA s) hD (hE s k) (hH s)
  have hq := quotient_eq (fun s => ∑ j, Real.exp (l j s p)) a (fun s => Real.exp (l k s p)) _ b
    (fun s => sumExp_pos _) ha (show 0 < Real.exp (l k 0 p) + Real.exp (l k 1 p) + Real.exp (l k 2 p) + Real.exp (l k 3 p) + Real.exp (l k 4 p) by positivity) hbp
  pointwise [quotient]
  simp only [hF, hD, hA, ← EReal.coe_mul]
  rw [div_coe_coe _ _ ?_, hq]
  · rfl
  · have := fun s => mul_pos (sumExp_pos fun j => l j s p) (ha s)
    have h0 := this 0
    have h1 := this 1
    have h2 := this 2
    have h3 := this 3
    have h4 := this 4
    positivity

/-- For finite arguments the kernel's weights of one image are the formula's. -/
theorem weights_coe (c : Vec Ideal S64x5x128 .f32) (x : Vec Ideal S1x128x1200 .f32) (C : Fin 64 → Fin 5 → Fin 128 → ℝ) (X : Fin 128 → Fin 1200 → ℝ)
    (hc : ∀ k s d, c (ix3 k s d) = ((C k s d : ℝ) : EReal)) (hx : ∀ d p, x (ix3 0 d p) = ((X d p : ℝ) : EReal)) (k : Fin 64) (p : Fin 1200) :
    weights (stackOf c) x (ix2 k p) = ((wt (logit C X) k p : ℝ) : EReal) := by
  have hv : ∀ s k p, conv (bias (stackOf c)) (hiLo (stackOf c)) (loHi (stackOf c)) (split x) (ix2 (row s k) p)
      = ((logit C X k s p / Real.log 2 : ℝ) : EReal) := fun s k p =>
    conv_row (stackOf c) x (C k s) X (row s k) (fun d => (stackOf_row c s k d).trans (hc k s d)) hx p
  unfold weights weightOf
  generalize conv (bias (stackOf c)) (hiLo (stackOf c)) (loHi (stackOf c)) (split x) = v at hv ⊢
  refine weight_coe (fun s => match s with
    | ⟨0, _⟩ => extractStridedSlice S64x1200 ![0, 0] v slices_S320x1200_o0_0_S64x1200
    | ⟨1, _⟩ => extractStridedSlice S64x1200 ![64, 0] v slices_S320x1200_o64_0_S64x1200
    | ⟨2, _⟩ => extractStridedSlice S64x1200 ![128, 0] v slices_S320x1200_o128_0_S64x1200
    | ⟨3, _⟩ => extractStridedSlice S64x1200 ![192, 0] v slices_S320x1200_o192_0_S64x1200
    | ⟨4, _⟩ => extractStridedSlice S64x1200 ![256, 0] v slices_S320x1200_o256_0_S64x1200) (logit C X) ?_ k p
  intro s k p
  match s with
  | ⟨0, _⟩ => refine Eq.trans ?_ (hv 0 k p); pointwise [row]
  | ⟨1, _⟩ => refine Eq.trans ?_ (hv 1 k p); pointwise [row]
  | ⟨2, _⟩ => refine Eq.trans ?_ (hv 2 k p); pointwise [row]
  | ⟨3, _⟩ => refine Eq.trans ?_ (hv 3 k p); pointwise [row]
  | ⟨4, _⟩ => refine Eq.trans ?_ (hv 4 k p); pointwise [row]

end Cert.KernelIdeal.Weights

end
-- ==== Proof.Image.lean ====
/-
  What the kernel computes for one image, at finite arguments: the formula's result.
-/
module

public import proofs.«01_k».proof.Proof.Weights

@[expose] public section

set_option maxRecDepth 16384

noncomputable section

namespace Cert.KernelIdeal.Image

open Cert.KernelIdeal Cert.KernelIdeal.Gen Cert.KernelIdeal.Block Cert.KernelIdeal.Weights Idealize.ShloMosaic Idealize.SL.Sem
open Cert.Proof.Consts Cert.Proof.Extended Cert.Proof.Formula

/-- For finite weights and arguments the kernel's aggregate of one image is the formula's: the two bf16 parts of the image add up
    to the image. -/
theorem aggregate_coe (w : FVec Ideal S320x128 .f32) (g : FVec Ideal S64x1200 .f32) (x : Vec Ideal S1x128x1200 .f32)
    (R : Fin 64 → Fin 128 → ℝ) (G : Fin 64 → Fin 1200 → ℝ) (X : Fin 128 → Fin 1200 → ℝ)
    (hw : ∀ k d, w (ix2 (row 0 k) d) = ((R k d : ℝ) : EReal)) (hg : ∀ k p, g (ix2 k p) = ((G k p : ℝ) : EReal))
    (hx : ∀ d p, x (ix3 0 d p) = ((X d p : ℝ) : EReal)) (k : Fin 64) (d : Fin 128) :
    aggregate (first w) g (split x) (ix2 k d) = ((agg G R X k d : ℝ) : EReal) := by
  have hw' : ∀ h, w (ix2 ⟨k.val, h⟩ d) = ((R k d : ℝ) : EReal) := fun h => by
    rw [← hw k d]; congr 2; apply Fin.ext; simp [row]
  pointwise [aggregate, first, split, hiX, loX, halves]
  simp only [hw', hg, hx, ← EReal.coe_mul, ← EReal.coe_sub, sum_coe, ← EReal.coe_add]
  congr 1
  simp only [sub_self, mul_zero, Finset.sum_const_zero, add_zero]
  rfl

/-- For a finite aggregate the kernel's scaled rows are each row divided by the larger of its norm and the small number. -/
theorem unitRows_coe (o : FVec Ideal S64x128 .f32) (O : Fin 64 → Fin 128 → ℝ)
    (ho : ∀ k d, o (ix2 k d) = ((O k d : ℝ) : EReal)) (k : Fin 64) (d : Fin 128) :
    unitRows o (ix2 k d) = ((rows O k d : ℝ) : EReal) := by
  pointwise [unitRows]
  simp only [ho, epsSqName, ← EReal.coe_mul, sum_coe]
  exact mul_rsqrt_max _ _

/-- For finite rows the kernel's last scaling divides by the larger of the whole's norm and the small number. -/
theorem unitAll_coe (o : FVec Ideal S64x128 .f32) (O : Fin 64 → Fin 128 → ℝ)
    (ho : ∀ k d, o (ix2 k d) = ((O k d : ℝ) : EReal)) (k : Fin 64) (d : Fin 128) :
    unitAll o (ix2 k d) = ((whole O k d : ℝ) : EReal) := by
  pointwise [unitAll]
  simp only [ho, epsSqName, ← EReal.coe_mul, sum_coe]
  exact mul_rsqrt_max _ _

/-- For finite arguments the kernel's result for one image is the formula's. -/
theorem image_coe (c : Vec Ideal S64x5x128 .f32) (x : Vec Ideal S1x128x1200 .f32) (C : Fin 64 → Fin 5 → Fin 128 → ℝ) (X : Fin 128 → Fin 1200 → ℝ)
    (hc : ∀ k s d, c (ix3 k s d) = ((C k s d : ℝ) : EReal)) (hx : ∀ d p, x (ix3 0 d p) = ((X d p : ℝ) : EReal)) (k : Fin 64) (d : Fin 128) :
    image (stackOf c) x (ix3 0 k d) = ((result C X k d : ℝ) : EReal) := by
  have h := unitAll_coe _ _ (unitRows_coe _ _ (aggregate_coe (stackOf c) (weights (stackOf c) x) x (fun k d => C k 0 d) _ X
    (fun k d => (stackOf_row c 0 k d).trans (hc k 0 d)) (weights_coe c x C X hc hx) hx)) k d
  unfold image
  generalize unitAll (unitRows (aggregate (first (stackOf c)) (weights (stackOf c) x) (split x))) = o at h ⊢
  refine Eq.trans ?_ h
  pointwise []

end Cert.KernelIdeal.Image

end
-- ==== Proof.Infinite.lean ====
/-
  Operations on extended reals at an infinite argument, and the facts of exponentials and quotients that hold of every argument.
-/
module

public import proofs.«01_k».proof.Proof.Extended

@[expose] public section

noncomputable section

namespace Cert.Proof.Infinite

open Idealize.ShloMosaic Cert.Proof.Consts Cert.Proof.Extended

/-- A number that is +∞ or −∞. -/
def Inf (z : EReal) : Prop := z = ⊤ ∨ z = ⊥

/-- A number is infinite or a real number. -/
theorem inf_or_real (z : EReal) : Inf z ∨ ∃ r : ℝ, z = ((r : ℝ) : EReal) := by
  induction z with
  | bot => exact .inl (.inr rfl)
  | coe r => exact .inr ⟨r, rfl⟩
  | top => exact .inl (.inl rfl)

/-- A number that is not zero times an infinite one is infinite. -/
theorem inf_mul (a z : EReal) (ha : a ≠ 0) (hz : Inf z) : Inf (a * z) := by
  rcases lt_or_gt_of_ne ha with h | h <;> rcases hz with rfl | rfl
  · exact .inr (EReal.mul_top_of_neg h)
  · exact .inl (EReal.mul_bot_of_neg h)
  · exact .inl (EReal.mul_top_of_pos h)
  · exact .inr (EReal.mul_bot_of_pos h)

/-- An infinite number plus any number is infinite. -/
theorem inf_add (z a : EReal) (hz : Inf z) : Inf (z + a) := by
  rcases hz with rfl | rfl
  · by_cases h : a = ⊥
    · exact .inr (by rw [h, EReal.add_bot])
    · exact .inl (EReal.top_add_of_ne_bot h)
  · exact .inr (EReal.bot_add a)

/-- An infinite number less any number is infinite. -/
theorem inf_sub (z a : EReal) (hz : Inf z) : Inf (z - a) := by
  rw [sub_eq_add_neg]
  exact inf_add z (-a) hz

/-- A sum with an infinite summand is infinite. -/
theorem inf_sum {ι : Type*} [Fintype ι] (f : ι → EReal) (i : ι) (h : Inf (f i)) : Inf (∑ j, f j) := by
  classical
  rw [← Finset.add_sum_erase Finset.univ f (Finset.mem_univ i)]
  exact inf_add _ _ h

/-- A square is not negative. -/
theorem sq_nonneg' (z : EReal) : 0 ≤ z * z := by
  induction z with
  | bot => rw [EReal.bot_mul_bot]; exact le_top
  | coe r => rw [← EReal.coe_mul]; exact EReal.coe_nonneg.mpr (mul_self_nonneg r)
  | top => rw [EReal.top_mul_top]; exact le_top

/-- A sum of squares of which one number is infinite is +∞. -/
theorem sum_sq_inf {ι : Type*} [Fintype ι] (f : ι → EReal) (i : ι) (h : Inf (f i)) : ∑ j, f j * f j = ⊤ := by
  rcases inf_sum (fun j => f j * f j) i (.inl (by rcases h with h | h <;> simp [h])) with h' | h'
  · exact h'
  · have : (0 : EReal) ≤ ∑ j, f j * f j := Finset.sum_nonneg fun j _ => sq_nonneg' (f j)
    rw [h'] at this
    exact absurd this (by simp)

/-- A quotient by the larger of +∞'s square root and another number is zero. -/
theorem div_top (a e : EReal) : Ideal.div a (max (Ideal.sqrt ⊤) e) = 0 := by
  show Ideal.div a (max ⊤ e) = 0
  rw [max_eq_left le_top]
  simp [Ideal.div]

/-- A product with the reciprocal square root of the larger of +∞ and another number is zero. -/
theorem mul_rsqrt_top (a e : EReal) : a * Ideal.rsqrt (max ⊤ e) = 0 := by
  rw [max_eq_left le_top]
  exact mul_zero a

/-- Zero over a positive number is zero. -/
theorem zero_div_pos (e : EReal) (he : 0 < e) : Ideal.div 0 e = 0 := by
  rw [Ideal.div, if_neg he.ne', zero_mul]

/-- An exponential is not negative. -/
theorem exp_nonneg (z : EReal) : 0 ≤ Ideal.exp z := by
  induction z with
  | bot => exact le_rfl
  | coe r => exact EReal.coe_nonneg.mpr (Real.exp_pos r).le
  | top => exact le_top

/-- Two to the power of a number less one that is at least as large is a real number that is not negative. -/
theorem exp2_below (a m : EReal) (h : a ≤ m) : ∃ r : ℝ, 0 ≤ r ∧ Ideal.exp2 (a - m) = ((r : ℝ) : EReal) := by
  have hbot : ∃ r : ℝ, 0 ≤ r ∧ Ideal.exp2 ⊥ = ((r : ℝ) : EReal) := ⟨0, le_rfl, rfl⟩
  induction m with
  | bot => rw [le_bot_iff.mp h]; exact hbot
  | top => rw [EReal.sub_top]; exact hbot
  | coe s =>
    induction a with
    | bot => rw [EReal.bot_sub]; exact hbot
    | top => exact absurd (top_le_iff.mp h) (EReal.coe_ne_top s)
    | coe r => exact ⟨(2 : ℝ) ^ (r - s), Real.rpow_nonneg (by norm_num) (r - s), by rw [← EReal.coe_sub]; exact Ideal.exp2_coe _⟩

/-- A quotient of numbers that are not negative is not negative, or it is −∞. -/
theorem div_nonneg_or (a b : EReal) (ha : 0 ≤ a) (hb : 0 ≤ b) : 0 ≤ Ideal.div a b ∨ Ideal.div a b = ⊥ := by
  unfold Ideal.div
  split_ifs
  · exact .inl le_top
  · exact .inr rfl
  · exact .inl (mul_nonneg ha (EReal.inv_nonneg_of_nonneg hb))

/-- One plus a product of two numbers, each not negative or −∞, is not zero. -/
theorem one_add_mul_ne (a b : EReal) (ha : 0 ≤ a ∨ a = ⊥) (hb : 0 ≤ b ∨ b = ⊥) : 1 + a * b ≠ 0 := by
  have h : 0 ≤ a * b ∨ a * b = ⊥ := by
    rcases ha with ha | rfl <;> rcases hb with hb | rfl
    · exact .inl (mul_nonneg ha hb)
    · rcases ha.eq_or_lt with rfl | ha
      · exact .inl (by rw [zero_mul])
      · exact .inr (EReal.mul_bot_of_pos ha)
    · rcases hb.eq_or_lt with rfl | hb
      · exact .inl (by rw [mul_zero])
      · exact .inr (EReal.bot_mul_of_pos hb)
    · exact .inl (by rw [EReal.bot_mul_bot]; exact le_top)
  rcases h with h | h
  · exact (lt_of_lt_of_le zero_lt_one (le_add_of_nonneg_right h)).ne'
  · rw [h, EReal.add_bot]; exact EReal.bot_ne_zero

/-- A quotient of real numbers is not zero where the dividend is not zero unless the divisor is. -/
theorem div_ne_zero' (a b : ℝ) (h : b ≠ 0 → a ≠ 0) : Ideal.div (a : EReal) (b : EReal) ≠ 0 := by
  by_cases hb : b = 0
  · subst hb
    unfold Ideal.div
    rw [if_pos EReal.coe_zero]
    split_ifs
    · exact EReal.top_ne_zero
    · exact EReal.bot_ne_zero
  · rw [div_coe_coe a b hb]
    exact fun h' => div_ne_zero (h hb) hb (EReal.coe_eq_zero.mp h')

end Cert.Proof.Infinite

end
-- ==== Proof.ImageInfinite.lean ====
/-
  What the kernel computes for an image that holds an infinite number: zeros, whatever the centroids.
-/
module

public import proofs.«01_k».proof.Proof.Image
public import proofs.«01_k».proof.Proof.Infinite

@[expose] public section

set_option maxRecDepth 16384

noncomputable section

namespace Cert.KernelIdeal.ImageInfinite

open Cert.KernelIdeal Cert.KernelIdeal.Gen Cert.KernelIdeal.Block Idealize.ShloMosaic Idealize.SL.Sem
open Cert.Proof.Consts Cert.Proof.Extended Cert.Proof.Infinite

/-- A power of two below the maximum over the clusters is a real number that is not negative, for all logits. -/
theorem overK_real (v : FVec Ideal S64x1200 .f32) (k : Fin 64) (p : Fin 1200) :
    ∃ r : ℝ, 0 ≤ r ∧ overK v (ix2 k p) = ((r : ℝ) : EReal) := by
  have h := exp2_below (v (ix2 k p)) (Finset.univ.fold max (⊥ : EReal) fun j : Fin 64 => v (ix2 j p))
    ((Finset.le_fold_max _).mpr (.inr ⟨k, Finset.mem_univ k, le_rfl⟩))
  pointwise [overK]
  rw [negInf]
  exact h

/-- A power of two below a number that is at least as large is a real number that is not negative. -/
theorem overS_real (m v : FVec Ideal S64x1200 .f32) (k : Fin 64) (p : Fin 1200) (h : v (ix2 k p) ≤ m (ix2 k p)) :
    ∃ r : ℝ, 0 ≤ r ∧ overS m v (ix2 k p) = ((r : ℝ) : EReal) := by
  have h' := exp2_below _ _ h
  pointwise [overS]
  exact h'

/-- The sum over the clusters is a real number that is not negative. -/
theorem sumK_real (v : FVec Ideal S64x1200 .f32) (p : Fin 1200) : ∃ r : ℝ, 0 ≤ r ∧ sumK v (ix2 0 p) = ((r : ℝ) : EReal) := by
  choose e he h using fun k => overK_real v k p
  refine ⟨∑ k, e k, Finset.sum_nonneg fun k _ => he k, ?_⟩
  pointwise [sumK]
  simp only [h, sum_coe]

/-- A shadow's logit is at most the maximum over the shadows. -/
theorem le_maxS (v : Fin 5 → FVec Ideal S64x1200 .f32) (k : Fin 64) (p : Fin 1200) (s : Fin 5) :
    v s (ix2 k p) ≤ maxS (v 0) (v 1) (v 2) (v 3) (v 4) (ix2 k p) := by
  pointwise [maxS]
  match s with
  | ⟨0, _⟩ => exact le_max_of_le_left (le_max_of_le_left (le_max_of_le_left (le_max_left _ _)))
  | ⟨1, _⟩ => exact le_max_of_le_left (le_max_of_le_left (le_max_of_le_left (le_max_right _ _)))
  | ⟨2, _⟩ => exact le_max_of_le_left (le_max_of_le_left (le_max_right _ _))
  | ⟨3, _⟩ => exact le_max_of_le_left (le_max_right _ _)
  | ⟨4, _⟩ => exact le_max_right _ _

/-- The kernel's weight is not zero, for all logits: where its divisor is not zero, its dividend is positive. -/
theorem weight_ne (v : Fin 5 → FVec Ideal S64x1200 .f32) (k : Fin 64) (p : Fin 1200) :
    weight (v 0) (v 1) (v 2) (v 3) (v 4) (ix2 k p) ≠ 0 := by
  choose A hA0 hA using fun s => sumK_real (v s) p
  choose E hE0 hE using fun s => overK_real (v s) k p
  choose H hH0 hH using fun s => overS_real (maxS (v 0) (v 1) (v 2) (v 3) (v 4)) (v s) k p (le_maxS v k p s)
  unfold weight
  generalize maxS (v 0) (v 1) (v 2) (v 3) (v 4) = m at hH ⊢
  have hD : sumS m (v 0) (v 1) (v 2) (v 3) (v 4) (ix2 k p) = ((H 0 + H 1 + H 2 + H 3 + H 4 : ℝ) : EReal) := by
    pointwise [sumS]
    simp only [hH, ← EReal.coe_add]
  have hD0 : 0 ≤ H 0 + H 1 + H 2 + H 3 + H 4 := by
    have := hH0 0; have := hH0 1; have := hH0 2; have := hH0 3; have := hH0 4; positivity
  generalize H 0 + H 1 + H 2 + H 3 + H 4 = D at hD hD0
  generalize sumS m (v 0) (v 1) (v 2) (v 3) (v 4) = d at hD ⊢
  have hF := fun s => Weights.factor_coe d m (v s) k p _ _ _ _ (hA s) hD (hE s) (hH s)
  pointwise [quotient]
  simp only [hF, hD, hA, ← EReal.coe_mul]
  refine div_ne_zero' _ _ fun h => ?_
  simp only [mul_ne_zero_iff] at h
  obtain ⟨⟨_, hd⟩, ⟨⟨⟨h0, h1⟩, h2⟩, h3⟩, h4⟩ := h
  have hf : ∀ s, A s ≠ 0 → A s * D + E s * H s ≠ 0 := fun s hs =>
    (add_pos_of_pos_of_nonneg (mul_pos ((hA0 s).lt_of_ne' hs) (hD0.lt_of_ne' hd)) (mul_nonneg (hE0 s) (hH0 s))).ne'
  exact mul_ne_zero (mul_ne_zero (mul_ne_zero (mul_ne_zero (hf 0 h0) (hf 1 h1)) (hf 2 h2)) (hf 3 h3)) (hf 4 h4)

/-- The weights cut out of any stack of logits are not zero. -/
theorem weightOf_ne (v : FVec Ideal S320x1200 .f32) (k : Fin 64) (p : Fin 1200) : weightOf v (ix2 k p) ≠ 0 :=
  weight_ne (fun s => match s with
    | ⟨0, _⟩ => extractStridedSlice S64x1200 ![0, 0] v slices_S320x1200_o0_0_S64x1200
    | ⟨1, _⟩ => extractStridedSlice S64x1200 ![64, 0] v slices_S320x1200_o64_0_S64x1200
    | ⟨2, _⟩ => extractStridedSlice S64x1200 ![128, 0] v slices_S320x1200_o128_0_S64x1200
    | ⟨3, _⟩ => extractStridedSlice S64x1200 ![192, 0] v slices_S320x1200_o192_0_S64x1200
    | ⟨4, _⟩ => extractStridedSlice S64x1200 ![256, 0] v slices_S320x1200_o256_0_S64x1200) k p

/-- Where the image is infinite in a channel at one pixel and no weight is zero, the aggregate is infinite in that channel. -/
theorem aggregate_inf (r : FVec Ideal S64x128 .f32) (g : FVec Ideal S64x1200 .f32) (x : Vec Ideal S1x128x1200 .f32)
    (d : Fin 128) (p : Fin 1200) (hx : Inf (x (ix3 0 d p))) (k : Fin 64) (hg : g (ix2 k p) ≠ 0) :
    Inf (aggregate r g (split x) (ix2 k d)) := by
  have h : Inf ((∑ q, g (ix2 k q) * x (ix3 0 d q)) + (∑ q, g (ix2 k q) * (x (ix3 0 d q) - x (ix3 0 d q)))
      - r (ix2 k d) * ∑ q, g (ix2 k q)) :=
    inf_sub _ _ (inf_add _ _ (inf_sum (fun q => g (ix2 k q) * x (ix3 0 d q)) p (inf_mul _ _ hg hx)))
  pointwise [aggregate, split, hiX, loX, halves]
  exact h

/-- A row with an infinite entry is scaled to zeros. -/
theorem unitRows_zero (o : FVec Ideal S64x128 .f32) (k : Fin 64) (d : Fin 128) (h : Inf (o (ix2 k d))) (e : Fin 128) :
    unitRows o (ix2 k e) = 0 := by
  have hs := sum_sq_inf (fun d => o (ix2 k d)) d h
  pointwise [unitRows]
  rw [hs]
  exact mul_rsqrt_top _ _

/-- Zero stays zero under the last scaling. -/
theorem unitAll_zero (o : FVec Ideal S64x128 .f32) (k : Fin 64) (d : Fin 128) (h : o (ix2 k d) = 0) : unitAll o (ix2 k d) = 0 := by
  pointwise [unitAll]
  rw [h]
  exact zero_mul _

/-- The kernel's result for an image with an infinite entry is zero everywhere. -/
theorem image_zero (w : FVec Ideal S320x128 .f32) (x : Vec Ideal S1x128x1200 .f32) (e : Fin 128) (p : Fin 1200) (hx : Inf (x (ix3 0 e p)))
    (k : Fin 64) (d : Fin 128) : image w x (ix3 0 k d) = 0 := by
  have h := unitAll_zero _ k d (unitRows_zero _ k e (aggregate_inf (first w) (weights w x) x e p hx k (weightOf_ne _ k p)) d)
  unfold image
  generalize unitAll (unitRows (aggregate (first w) (weights w x) (split x))) = o at h ⊢
  refine Eq.trans ?_ h
  pointwise []

end Cert.KernelIdeal.ImageInfinite

end
-- ==== Proof.Stages.lean ====
/-
  The reference's stages read at an index, at the ideal values.
-/
module

public import proofs.«01_k».proof.Proof.Extended
public import proofs.«01_k».proof.Proof.Gen.ReferenceIdeal.Read
public import Idealize.ShloMosaic.Lib.Pointwise

@[expose] public section

set_option maxRecDepth 16384

noncomputable section

namespace Cert.ReferenceIdeal.Stages

open Cert.ReferenceIdeal Cert.ReferenceIdeal.Gen Cert.ReferenceIdeal.Read Idealize.ShloMosaic Idealize.SL.Sem
open Cert.Proof.Consts Cert.Proof.Extended

variable (x0 : (⟨S16x128x30x40, .f32⟩ : BufTy).Contents (Elt Ideal)) (x1 : (⟨S64x5x128, .f32⟩ : BufTy).Contents (Elt Ideal))

/-- Row `5 k + s` of the reference's matrix of centroids is shadow `s` of cluster `k`. -/
theorem flat_apply (k : Fin 64) (s : Fin 5) (d : Fin 128) : val_main_v0 x1 (ix2 ⟨k.val * 5 + s.val, by omega⟩ d) = x1 (ix3 k s d) := by
  pointwise [val_main_v0]

/-- The reference's logit at a pixel is the sum over the channels of 200 times centroid times image, plus −100 times the
    square root of the centroid's sum of squares. -/
theorem logits_apply (n : Fin 16) (k : Fin 64) (s : Fin 5) (p : Fin 1200) :
    val_main_v12 x0 x1 (ix4 n k s p) = (∑ d, Ideal.ofBits FTy.f32 1128792064#32 * x1 (ix3 k s d) * val_main_v6 x0 (ix3 n d p))
      + Ideal.ofBits FTy.f32 3267887104#32 * Ideal.sqrt (∑ d, x1 (ix3 k s d) * x1 (ix3 k s d)) := by
  have h : val_main_v12 x0 x1 (ix4 n k s p) = val_main_v11 x0 x1 (ix3 n ⟨k.val * 5 + s.val, by omega⟩ p) := by
    pointwise [val_main_v12]
  rw [h]
  pointwise [val_main_v11, val_main_v10, val_main_v9, val_main_v8, val_main_v7, val_main_v5, val_main_v4, val_main_v3, val_main_v2, val_main_v1, val_main_call0_v0, val_main_call0_v1, val_main_cst, val_main_cst_0, val_main_call0_cst]
  simp only [flat_apply]

/-- The first maximum is the maximum of the logits over the clusters. -/
theorem maxK_apply (n : Fin 16) (s : Fin 5) (p : Fin 1200) :
    val_main_v13 x0 x1 (ix3 n s p) = Finset.univ.fold max (⊥ : EReal) (fun k : Fin 64 => val_main_v12 x0 x1 (ix4 n k s p)) := by
  unfold val_main_v13
  generalize val_main_v12 x0 x1 = y
  refine (Host.reduce_eq_fold_single (FloatOps.maximumf (F := Ideal) (φ := .f32)) y (val_main_cst_1 (F := Ideal)) reducesTo_S16x64x5x1200_S16x5x1200_d1 (by decide) h_S_ (ix3 n s p)).trans ?_
  rw [val_main_cst_1_apply]
  refine Eq.trans (congrArg (fun b => Finset.univ.fold _ b _) negInf) (congrArg (fun f => Finset.univ.fold max (⊥ : EReal) f) (funext fun k => ?_))
  exact congrArg y (funext fun a => Fin.ext (by match a with | ⟨0, _⟩ => rfl | ⟨1, _⟩ => rfl | ⟨2, _⟩ => rfl | ⟨3, _⟩ => rfl))

/-- The second maximum is the maximum of the logits over the shadows. -/
theorem maxS_apply (n : Fin 16) (k : Fin 64) (p : Fin 1200) :
    val_main_v24 x0 x1 (ix3 n k p) = Finset.univ.fold max (⊥ : EReal) (fun s : Fin 5 => val_main_v12 x0 x1 (ix4 n k s p)) := by
  unfold val_main_v24
  generalize val_main_v12 x0 x1 = y
  refine (Host.reduce_eq_fold_single (FloatOps.maximumf (F := Ideal) (φ := .f32)) y (val_main_cst_4 (F := Ideal)) reducesTo_S16x64x5x1200_S16x64x1200_d2 (by decide) h_S_ (ix3 n k p)).trans ?_
  rw [val_main_cst_4_apply]
  refine Eq.trans (congrArg (fun b => Finset.univ.fold _ b _) negInf) (congrArg (fun f => Finset.univ.fold max (⊥ : EReal) f) (funext fun s => ?_))
  exact congrArg y (funext fun a => Fin.ext (by match a with | ⟨0, _⟩ => rfl | ⟨1, _⟩ => rfl | ⟨2, _⟩ => rfl | ⟨3, _⟩ => rfl))

/-- The first exponential is that of a logit less the maximum over the clusters. -/
theorem expK_apply (n : Fin 16) (k : Fin 64) (s : Fin 5) (p : Fin 1200) :
    val_main_v19 x0 x1 (ix4 n k s p) = Ideal.exp (val_main_v12 x0 x1 (ix4 n k s p) - max (⊥ : EReal) (val_main_v13 x0 x1 (ix3 n s p))) := by
  rw [val_main_v19_apply, val_main_v18_apply, val_main_v17_apply, val_main_v16_apply, val_main_v15_apply, val_main_v14_apply, val_main_cst_2_apply]
  have h : idx_main_v16 (idx_main_v17 (ix4 n k s p)) = ix3 n s p := by funext a; match a with | ⟨0, _⟩ => rfl | ⟨1, _⟩ => rfl | ⟨2, _⟩ => rfl
  rw [h, ← negInf]
  generalize val_main_v12 x0 x1 = y
  generalize val_main_v13 x0 x1 = z
  rfl

/-- The second exponential is that of a logit less the maximum over the shadows. -/
theorem expS_apply (n : Fin 16) (k : Fin 64) (s : Fin 5) (p : Fin 1200) :
    val_main_v30 x0 x1 (ix4 n k s p) = Ideal.exp (val_main_v12 x0 x1 (ix4 n k s p) - max (⊥ : EReal) (val_main_v24 x0 x1 (ix3 n k p))) := by
  rw [val_main_v30_apply, val_main_v29_apply, val_main_v28_apply, val_main_v27_apply, val_main_v26_apply, val_main_v25_apply, val_main_cst_5_apply]
  have h : idx_main_v27 (idx_main_v28 (ix4 n k s p)) = ix3 n k p := by funext a; match a with | ⟨0, _⟩ => rfl | ⟨1, _⟩ => rfl | ⟨2, _⟩ => rfl
  rw [h, ← negInf]
  generalize val_main_v12 x0 x1 = y
  generalize val_main_v24 x0 x1 = z
  rfl

/-- The first softmax is an exponential over the sum of the exponentials over the clusters. -/
theorem softK_apply (n : Fin 16) (k : Fin 64) (s : Fin 5) (p : Fin 1200) :
    val_main_v23 x0 x1 (ix4 n k s p) = Ideal.div (val_main_v19 x0 x1 (ix4 n k s p)) (∑ j, val_main_v19 x0 x1 (ix4 n j s p)) := by
  pointwise [val_main_v23, val_main_v22, val_main_v21, val_main_v20, val_main_cst_3]

/-- The second softmax is an exponential over the sum of the exponentials over the shadows. -/
theorem softS_apply (n : Fin 16) (k : Fin 64) (s : Fin 5) (p : Fin 1200) :
    val_main_v34 x0 x1 (ix4 n k s p) = Ideal.div (val_main_v30 x0 x1 (ix4 n k s p)) (∑ j, val_main_v30 x0 x1 (ix4 n k j p)) := by
  pointwise [val_main_v34, val_main_v33, val_main_v32, val_main_v31, val_main_cst_6]

/-- The weight of a cluster at a pixel is the product over the five shadows of one plus the product of the two softmaxes. -/
theorem weight_apply (n : Fin 16) (k : Fin 64) (p : Fin 1200) :
    val_main_v51 x0 x1 (ix3 n k p) = (1 + val_main_v23 x0 x1 (ix4 n k 0 p) * val_main_v34 x0 x1 (ix4 n k 0 p))
      * (1 + val_main_v23 x0 x1 (ix4 n k 1 p) * val_main_v34 x0 x1 (ix4 n k 1 p))
      * (1 + val_main_v23 x0 x1 (ix4 n k 2 p) * val_main_v34 x0 x1 (ix4 n k 2 p))
      * (1 + val_main_v23 x0 x1 (ix4 n k 3 p) * val_main_v34 x0 x1 (ix4 n k 3 p))
      * (1 + val_main_v23 x0 x1 (ix4 n k 4 p) * val_main_v34 x0 x1 (ix4 n k 4 p)) := by
  pointwise [val_main_v51, val_main_v50, val_main_v49, val_main_v48, val_main_v47, val_main_v46, val_main_v45, val_main_v44, val_main_v43, val_main_v42, val_main_v41, val_main_v40, val_main_v39, val_main_v38, val_main_v37, val_main_v36, val_main_cst_7, val_main_v35]

/-- The aggregate is the sum over the pixels of weight times image, less the first shadow's centroid times the sum of the weights. -/
theorem aggregate_apply (n : Fin 16) (k : Fin 64) (d : Fin 128) :
    val_main_v61 x0 x1 (ix3 n k d) = (∑ p, val_main_v51 x0 x1 (ix3 n k p) * val_main_v6 x0 (ix3 n d p))
      - x1 (ix3 k 0 d) * ∑ p, val_main_v51 x0 x1 (ix3 n k p) := by
  pointwise [val_main_v61, val_main_v60, val_main_v59, val_main_v58, val_main_v57, val_main_v56, val_main_cst_8, val_main_v55, val_main_v54, val_main_v53, val_main_v52]

/-- Each row of the aggregate is divided by its norm, or by the small number where that is larger. -/
theorem rows_apply (n : Fin 16) (k : Fin 64) (d : Fin 128) :
    val_main_v66 x0 x1 (ix3 n k d) = Ideal.div (val_main_v61 x0 x1 (ix3 n k d))
      (max (Ideal.sqrt (∑ e, val_main_v61 x0 x1 (ix3 n k e) * val_main_v61 x0 x1 (ix3 n k e))) (Ideal.ofBits FTy.f32 0x2B8CBCCC#32)) := by
  pointwise [val_main_v66, val_main_v65, val_main_v64, val_main_v63, val_main_cst_9, val_main_v62, val_main_call1_v2, val_main_call1_v1, val_main_call1_cst, val_main_call1_v0]

/-- Entry `128 k + d` of a flattened image is entry `d` of row `k`. -/
theorem flatRows_apply (n : Fin 16) (k : Fin 64) (d : Fin 128) :
    val_main_v67 x0 x1 (ix2 n ⟨k.val * 128 + d.val, by omega⟩) = val_main_v66 x0 x1 (ix3 n k d) := by
  pointwise [val_main_v67]

/-- Each flattened image is divided by its norm, or by the small number where that is larger. -/
theorem whole_apply (n : Fin 16) (j : Fin 8192) :
    val_main_v72 x0 x1 (ix2 n j) = Ideal.div (val_main_v67 x0 x1 (ix2 n j))
      (max (Ideal.sqrt (∑ i, val_main_v67 x0 x1 (ix2 n i) * val_main_v67 x0 x1 (ix2 n i))) (Ideal.ofBits FTy.f32 0x2B8CBCCC#32)) := by
  pointwise [val_main_v72, val_main_v71, val_main_v70, val_main_v69, val_main_cst_10, val_main_v68, val_main_call2_v2, val_main_call2_v1, val_main_call2_cst, val_main_call2_v0]

end Cert.ReferenceIdeal.Stages

end
-- ==== Proof.Reference.lean ====
/-
  What the reference computes for one image, at finite centroids and pixels: the formula's result.
-/
module

public import proofs.«01_k».proof.Proof.Stages
public import proofs.«01_k».proof.Proof.Formula

@[expose] public section

set_option maxRecDepth 16384

noncomputable section

namespace Cert.ReferenceIdeal.Reference

open Cert.ReferenceIdeal Cert.ReferenceIdeal.Gen Cert.ReferenceIdeal.Read Cert.ReferenceIdeal.Stages Idealize.ShloMosaic Idealize.SL.Sem
open Cert.Proof.Consts Cert.Proof.Extended Cert.Proof.Formula

/-- For finite logits, the exponentials below their maximum over the sum of these are the softmax: the maximum cancels. -/
theorem softmax_coe {n : Nat} (l : Fin (n + 1) → ℝ) (e : Fin (n + 1) → EReal) (M : EReal)
    (hM : M = Finset.univ.fold max (⊥ : EReal) (fun i => ((l i : ℝ) : EReal)))
    (he : ∀ i, e i = Ideal.exp (((l i : ℝ) : EReal) - max (⊥ : EReal) M)) (i : Fin (n + 1)) :
    Ideal.div (e i) (∑ j, e j) = ((Real.exp (l i) / ∑ j, Real.exp (l j) : ℝ) : EReal) := by
  obtain ⟨m, hm⟩ := fold_max_coe l
  have he' : ∀ i, e i = ((Real.exp (l i) * Real.exp (-m) : ℝ) : EReal) := fun i => by
    rw [he, hM, hm, max_eq_right bot_le, ← EReal.coe_sub, Ideal.exp_coe, ← Real.exp_add, sub_eq_add_neg]
  simp only [he', sum_coe]
  rw [← Finset.sum_mul]
  have hs : 0 < ∑ j, Real.exp (l j) := Finset.sum_pos (fun _ _ => Real.exp_pos _) Finset.univ_nonempty
  rw [div_coe_coe _ _ (mul_pos hs (Real.exp_pos _)).ne', mul_div_mul_right _ _ (Real.exp_pos _).ne']

/-- A sum over the 8192 entries of a flattened image is the sum over its rows of the sums over a row. -/
theorem sum_flat {M : Type*} [AddCommMonoid M] (f : Fin 8192 → M) :
    ∑ i, f i = ∑ k : Fin 64, ∑ d : Fin 128, f ⟨k.val * 128 + d.val, by omega⟩ := by
  rw [← Fintype.sum_prod_type']
  exact (Fintype.sum_equiv (finProdFinEquiv (m := 64) (n := 128)) _ f fun kd => congrArg f (Fin.ext (by simp [finProdFinEquiv]; omega))).symm

variable (x0 : (⟨S16x128x30x40, .f32⟩ : BufTy).Contents (Elt Ideal)) (x1 : (⟨S64x5x128, .f32⟩ : BufTy).Contents (Elt Ideal))
  (C : Fin 64 → Fin 5 → Fin 128 → ℝ) (X : Fin 128 → Fin 1200 → ℝ)

/-- For finite centroids and a finite image the reference's logits are the formula's. -/
theorem logits_coe (n : Fin 16) (hc : ∀ k s d, x1 (ix3 k s d) = ((C k s d : ℝ) : EReal)) (hx : ∀ d p, val_main_v6 x0 (ix3 n d p) = ((X d p : ℝ) : EReal))
    (k : Fin 64) (s : Fin 5) (p : Fin 1200) :
    val_main_v12 x0 x1 (ix4 n k s p) = ((logit C X k s p : ℝ) : EReal) := by
  rw [logits_apply]
  simp only [hc, hx, twoAlpha, negAlpha, ← EReal.coe_mul, sum_coe]
  rw [sqrt_coe_nonneg _ (Finset.sum_nonneg fun d _ => mul_self_nonneg _), ← EReal.coe_mul, ← EReal.coe_add]
  rfl

/-- For finite logits the reference's weights are the formula's. -/
theorem weight_coe (n : Fin 16) (l : Fin 64 → Fin 5 → Fin 1200 → ℝ)
    (hl : ∀ k s p, val_main_v12 x0 x1 (ix4 n k s p) = ((l k s p : ℝ) : EReal)) (k : Fin 64) (p : Fin 1200) :
    val_main_v51 x0 x1 (ix3 n k p) = ((wt l k p : ℝ) : EReal) := by
  have hK : ∀ s, val_main_v23 x0 x1 (ix4 n k s p) = ((softK l k s p : ℝ) : EReal) := fun s => by
    rw [softK_apply]
    refine softmax_coe (n := 63) (fun k => l k s p) (fun k => val_main_v19 x0 x1 (ix4 n k s p)) (val_main_v13 x0 x1 (ix3 n s p)) ?_ (fun j => ?_) k
    · rw [maxK_apply]; simp only [hl]
    · rw [expK_apply, hl]
  have hS : ∀ s, val_main_v34 x0 x1 (ix4 n k s p) = ((softS l k s p : ℝ) : EReal) := fun s => by
    rw [softS_apply]
    refine (softmax_coe (n := 4) (fun s => l k s p) (fun s => val_main_v30 x0 x1 (ix4 n k s p)) (val_main_v24 x0 x1 (ix3 n k p)) ?_ (fun j => ?_) s).trans ?_
    · rw [maxS_apply]; simp only [hl]
    · rw [expS_apply, hl]
    · rw [Fin.sum_univ_five]; rfl
  rw [weight_apply]
  simp only [hK, hS, ← EReal.coe_mul, ← EReal.coe_one, ← EReal.coe_add]
  rfl

/-- For finite weights and arguments the reference's aggregate is the formula's. -/
theorem aggregate_coe (n : Fin 16) (G : Fin 64 → Fin 1200 → ℝ) (hg : ∀ k p, val_main_v51 x0 x1 (ix3 n k p) = ((G k p : ℝ) : EReal))
    (hc : ∀ k s d, x1 (ix3 k s d) = ((C k s d : ℝ) : EReal)) (hx : ∀ d p, val_main_v6 x0 (ix3 n d p) = ((X d p : ℝ) : EReal))
    (k : Fin 64) (d : Fin 128) :
    val_main_v61 x0 x1 (ix3 n k d) = ((agg G (fun k d => C k 0 d) X k d : ℝ) : EReal) := by
  rw [aggregate_apply]
  simp only [hg, hc, hx, ← EReal.coe_mul, sum_coe, ← EReal.coe_sub]
  rfl

/-- For a finite aggregate the reference's scaled rows are the formula's. -/
theorem rows_coe (n : Fin 16) (O : Fin 64 → Fin 128 → ℝ) (ho : ∀ k d, val_main_v61 x0 x1 (ix3 n k d) = ((O k d : ℝ) : EReal))
    (k : Fin 64) (d : Fin 128) :
    val_main_v66 x0 x1 (ix3 n k d) = ((rows O k d : ℝ) : EReal) := by
  rw [rows_apply]
  simp only [ho, ← EReal.coe_mul, sum_coe, epsWord]
  exact div_max_sqrt _ _ (Finset.sum_nonneg fun e _ => mul_self_nonneg _)

/-- For finite rows the reference's scaled image is the formula's. -/
theorem whole_coe (n : Fin 16) (O : Fin 64 → Fin 128 → ℝ) (ho : ∀ k d, val_main_v66 x0 x1 (ix3 n k d) = ((O k d : ℝ) : EReal))
    (k : Fin 64) (d : Fin 128) :
    val_main_v72 x0 x1 (ix2 n ⟨k.val * 128 + d.val, by omega⟩) = ((whole O k d : ℝ) : EReal) := by
  rw [whole_apply, sum_flat]
  simp only [flatRows_apply, ho, ← EReal.coe_mul, sum_coe, epsWord]
  exact div_max_sqrt _ _ (Finset.sum_nonneg fun j _ => Finset.sum_nonneg fun e _ => mul_self_nonneg _)

/-- For finite centroids and a finite image the reference's result for that image is the formula's. -/
theorem result_coe (n : Fin 16) (hc : ∀ k s d, x1 (ix3 k s d) = ((C k s d : ℝ) : EReal)) (hx : ∀ d p, val_main_v6 x0 (ix3 n d p) = ((X d p : ℝ) : EReal))
    (k : Fin 64) (d : Fin 128) :
    val_main_v72 x0 x1 (ix2 n ⟨k.val * 128 + d.val, by omega⟩) = ((result C X k d : ℝ) : EReal) :=
  whole_coe x0 x1 n _ (rows_coe x0 x1 n _ (aggregate_coe x0 x1 C X n _ (weight_coe x0 x1 n _ (logits_coe x0 x1 C X n hc hx)) hc hx)) k d

end Cert.ReferenceIdeal.Reference

end
-- ==== Proof.ReferenceInfinite.lean ====
/-
  What the reference computes for an image that holds an infinite number: zeros, whatever the centroids.
-/
module

public import proofs.«01_k».proof.Proof.Reference
public import proofs.«01_k».proof.Proof.Infinite

@[expose] public section

set_option maxRecDepth 16384

noncomputable section

namespace Cert.ReferenceIdeal.ReferenceInfinite

open Cert.ReferenceIdeal Cert.ReferenceIdeal.Gen Cert.ReferenceIdeal.Read Cert.ReferenceIdeal.Stages Idealize.ShloMosaic Idealize.SL.Sem
open Cert.Proof.Consts Cert.Proof.Extended Cert.Proof.Infinite

variable (x0 : (⟨S16x128x30x40, .f32⟩ : BufTy).Contents (Elt Ideal)) (x1 : (⟨S64x5x128, .f32⟩ : BufTy).Contents (Elt Ideal))

/-- The softmax over the clusters is not negative or it is −∞, for all logits. -/
theorem softK_or (n : Fin 16) (k : Fin 64) (s : Fin 5) (p : Fin 1200) :
    0 ≤ val_main_v23 x0 x1 (ix4 n k s p) ∨ val_main_v23 x0 x1 (ix4 n k s p) = ⊥ := by
  have h : ∀ j, 0 ≤ val_main_v19 x0 x1 (ix4 n j s p) := fun j => by rw [expK_apply]; exact exp_nonneg _
  rw [softK_apply]
  exact div_nonneg_or _ _ (h k) (Finset.sum_nonneg fun j _ => h j)

/-- The softmax over the shadows is not negative or it is −∞, for all logits. -/
theorem softS_or (n : Fin 16) (k : Fin 64) (s : Fin 5) (p : Fin 1200) :
    0 ≤ val_main_v34 x0 x1 (ix4 n k s p) ∨ val_main_v34 x0 x1 (ix4 n k s p) = ⊥ := by
  have h : ∀ j, 0 ≤ val_main_v30 x0 x1 (ix4 n k j p) := fun j => by rw [expS_apply]; exact exp_nonneg _
  rw [softS_apply]
  exact div_nonneg_or _ _ (h s) (Finset.sum_nonneg fun j _ => h j)

/-- The reference's weight is not zero, for all logits. -/
theorem weight_ne (n : Fin 16) (k : Fin 64) (p : Fin 1200) : val_main_v51 x0 x1 (ix3 n k p) ≠ 0 := by
  have h := fun s => one_add_mul_ne _ _ (softK_or x0 x1 n k s p) (softS_or x0 x1 n k s p)
  rw [weight_apply]
  exact mul_ne_zero (mul_ne_zero (mul_ne_zero (mul_ne_zero (h 0) (h 1)) (h 2)) (h 3)) (h 4)

/-- Each row of the aggregate of an image with an infinite entry is scaled to zeros. -/
theorem rows_zero (n : Fin 16) (e : Fin 128) (p : Fin 1200) (hx : Inf (val_main_v6 x0 (ix3 n e p))) (k : Fin 64) (d : Fin 128) :
    val_main_v66 x0 x1 (ix3 n k d) = 0 := by
  have h : Inf (val_main_v61 x0 x1 (ix3 n k e)) := by
    rw [aggregate_apply]
    exact inf_sub _ _ (inf_sum (fun q => val_main_v51 x0 x1 (ix3 n k q) * val_main_v6 x0 (ix3 n e q)) p
      (inf_mul _ _ (weight_ne x0 x1 n k p) hx))
  rw [rows_apply, sum_sq_inf (fun d => val_main_v61 x0 x1 (ix3 n k d)) e h]
  exact div_top _ _

/-- The reference's result for an image with an infinite entry is zero everywhere. -/
theorem result_zero (n : Fin 16) (e : Fin 128) (p : Fin 1200) (hx : Inf (val_main_v6 x0 (ix3 n e p))) (k : Fin 64) (d : Fin 128) :
    val_main_v72 x0 x1 (ix2 n ⟨k.val * 128 + d.val, by omega⟩) = 0 := by
  rw [whole_apply, flatRows_apply, rows_zero x0 x1 n e p hx, epsWord]
  exact zero_div_pos _ (lt_max_of_lt_right (EReal.coe_pos.mpr eps_pos))

end Cert.ReferenceIdeal.ReferenceInfinite

end
-- ==== Proof.Agree.lean ====
/-
  The equation: on finite centroids the kernel's result is the reference's.
-/
module

public import proofs.«01_k».proof.Proof.Run
public import proofs.«01_k».proof.Proof.ImageInfinite
public import proofs.«01_k».proof.Proof.ReferenceInfinite

@[expose] public section

set_option maxRecDepth 16384

noncomputable section

namespace Cert.Proof.Agree

open Idealize.ShloMosaic Idealize.SL.Sem

open Cert.Proof.Infinite

/-- The kernel's flattened result is, image by image, the result of the image. -/
theorem value_apply (x : FVec Ideal Cert.KernelIdeal.S16x128x30x40 .f32) (w : FVec Ideal Cert.KernelIdeal.S64x5x128 .f32)
    (n : Fin 16) (k : Fin 64) (d : Fin 128) :
    Cert.KernelIdeal.Result.value (F := Ideal) x w (ix2 n ⟨k.val * 128 + d.val, by omega⟩)
      = Cert.KernelIdeal.Block.image (F := Ideal) (Cert.KernelIdeal.Block.stackOf w)
          (Cert.KernelIdeal.Array.ofAll (F := Ideal) (Cert.ReferenceIdeal.Read.val_main_v6 (F := Ideal) x) n) (ix3 0 k d) := by
  have h : Cert.KernelIdeal.Result.value (F := Ideal) x w (ix2 n ⟨k.val * 128 + d.val, by omega⟩)
      = Cert.KernelIdeal.Array.all (F := Ideal) (Cert.ReferenceIdeal.Read.val_main_v6 (F := Ideal) x) w (ix3 n k d) := by
    unfold Cert.KernelIdeal.Result.value
    have e : shapeCast Cert.KernelIdeal.S16x128x1200 x Cert.KernelIdeal.Facts₀.shapeCasts_S16x128x30x40_S16x128x1200
        = Cert.ReferenceIdeal.Read.val_main_v6 (F := Ideal) x := rfl
    rw [e]
    generalize Cert.KernelIdeal.Array.all (F := Ideal) (Cert.ReferenceIdeal.Read.val_main_v6 (F := Ideal) x) w = y
    pointwise []
  exact h

/-- For centroids whose every entry is a real number the kernel and the reference have one result: the formula's where the
    image is finite, zeros where it is not. -/
theorem value_eq (x : FVec Ideal Cert.KernelIdeal.S16x128x30x40 .f32) (w : FVec Ideal Cert.KernelIdeal.S64x5x128 .f32)
    (hw : ∀ i, ∃ r : ℝ, w i = ((r : ℝ) : EReal)) :
    Cert.KernelIdeal.Result.value (F := Ideal) x w = Cert.ReferenceIdeal.Read.val_main_v72 (F := Ideal) x w := by
  funext j
  obtain ⟨n, e, rfl⟩ : ∃ (n : Fin 16) (e : Fin 8192), j = ix2 n e := ⟨j 0, j 1, eq_ix2 j⟩
  obtain ⟨k, d, rfl⟩ : ∃ (k : Fin 64) (d : Fin 128), e = ⟨k.val * 128 + d.val, by omega⟩ :=
    ⟨⟨e.val / 128, by omega⟩, ⟨e.val % 128, by omega⟩, Fin.ext (by show e.val = e.val / 128 * 128 + e.val % 128; omega)⟩
  rw [value_apply]
  by_cases hx : ∃ c p, Inf (Cert.ReferenceIdeal.Read.val_main_v6 (F := Ideal) x (ix3 n c p))
  · obtain ⟨c, p, hx⟩ := hx
    rw [Cert.ReferenceIdeal.ReferenceInfinite.result_zero x w n c p hx k d]
    exact Cert.KernelIdeal.ImageInfinite.image_zero _ _ c p hx k d
  · choose C hC using hw
    choose X hX using fun c p => (inf_or_real (Cert.ReferenceIdeal.Read.val_main_v6 (F := Ideal) x (ix3 n c p))).resolve_left
      fun h => hx ⟨c, p, h⟩
    rw [Cert.ReferenceIdeal.Reference.result_coe x w (fun k s d => C (ix3 k s d)) X n (fun k s d => hC _) hX k d]
    exact Cert.KernelIdeal.Image.image_coe w (Cert.KernelIdeal.Array.ofAll (F := Ideal) (Cert.ReferenceIdeal.Read.val_main_v6 (F := Ideal) x) n)
      (fun k s d => C (ix3 k s d)) X (fun k s d => hC _) (fun d p => hX d p) k d

end Cert.Proof.Agree

end
-- ==== Proof.lean ====
/-
  The certificate, assembled: the frames, the three named constants, and the equation of the kernel's result with
  the reference's.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel
public import proofs.«01_k».proof.Proof.Gen.KernelIdeal
public import proofs.«01_k».proof.Proof.Gen.Pre_finite_centroids
public import proofs.«01_k».proof.Proof.Gen.ReferenceIdeal.Read
public import proofs.«01_k».proof.Proof.Gen.ReferenceIdeal
public import proofs.«01_k».proof.Proof.Run
public import proofs.«01_k».proof.Proof.Finite
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem

/-- The reference runs to a machine at rest and leaves its arguments as they were. -/
theorem reference_frame : Cert.quiescent_ReferenceIdeal := fun m ρ _ =>
  (θ_run _ _ _).mono (fun r h => ⟨fun c => (h c).2, Idealize.ShloMosaic.sem_eq_zero_of_no_sems (by decide) r.2⟩)
    (Cert.ReferenceIdeal.Value.run (F := Ideal) m ρ)

/-- Each of the three named constants denotes the value the certificate gives its name. -/
theorem constants : Cert.preserves_Kernel_KernelIdeal :=
  ⟨IdealRules.named_const.statement Cert.KernelIdeal.κ "neg_alpha_log2e" .f32 0xC31044FE#32 (((-100) * (Real.log 2)⁻¹ : ℝ) : EReal) rfl,
    IdealRules.named_const.statement Cert.KernelIdeal.κ "two_alpha_log2e" .f32 0x439044FE#32 ((200 * (Real.log 2)⁻¹ : ℝ) : EReal) rfl,
    IdealRules.named_const.statement Cert.KernelIdeal.κ "eps_squared" .f32 0x179ABE15#32 (((2305843 / 2305843009213693952) * (2305843 / 2305843009213693952) : ℝ) : EReal) rfl⟩

/-- On finite centroids the kernel and the reference end with one result, their arguments as they were. -/
theorem result : Cert.algebraic_KernelIdeal_ReferenceIdeal_pre_finite_centroids := by
  intro m g m' g' hm hargs
  refine ⟨fun c => Cert.KernelIdeal.Result.value (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run (F := Ideal) m g, ?_⟩
  refine (θ_run _ _ _).mono (fun r h c => ⟨?_, (h c).2⟩) (Cert.ReferenceIdeal.Value.run (F := Ideal) m' g')
  have hw := Cert.Pre_finite_centroids.Read.real_centroids _ _ (hm c)
  refine ((h c).1.trans (Cert.ReferenceIdeal.Read.val_main_v72_eq (F := Ideal) (StableHlo.launchContents m' c))).trans ?_
  refine Eq.trans ?_ (Agree.value_eq _ _ hw).symm
  exact congrArg₂ (Cert.ReferenceIdeal.Read.val_main_v72 (F := Ideal)) (hargs c).1 (hargs c).2

/-- Both kernels and the reference run to a machine at rest with their arguments as they were, the three constants denote their
    values, and on finite centroids the kernel's result is the reference's. -/
theorem claim : Cert.Claim :=
  ⟨Cert.Kernel.Gen.facts, Cert.KernelIdeal.Gen.facts, Cert.ReferenceIdeal.Gen.facts, Cert.Pre_finite_centroids.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    constants,
    result⟩

end Cert.Proof

end
